-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![24576, 384]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S24576x768 : Shape := ⟨2, ![24576, 768]⟩
abbrev S17x768x384 : Shape := ⟨3, ![17, 768, 384]⟩
abbrev S16x768x384 : Shape := ⟨3, ![16, 768, 384]⟩
abbrev S4x768x768 : Shape := ⟨3, ![4, 768, 768]⟩
abbrev S32 : Shape := ⟨1, ![32]⟩
abbrev S30 : Shape := ⟨1, ![30]⟩
abbrev S4 : Shape := ⟨1, ![4]⟩
abbrev S_ : Shape := ⟨0, ![]⟩
abbrev S1x768x384 : Shape := ⟨3, ![1, 768, 384]⟩
abbrev S1 : Shape := ⟨1, ![1]⟩
abbrev S1x384x384 : Shape := ⟨3, ![1, 384, 384]⟩
abbrev S384x384 : Shape := ⟨2, ![384, 384]⟩
abbrev S768x768 : Shape := ⟨2, ![768, 768]⟩
abbrev S1x768x768 : Shape := ⟨3, ![1, 768, 768]⟩

abbrev nBuf : Space → Nat
  | .hbm => 3
  | .vmem => 5
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S24576x768, .f32⟩
  | .local _ .vmem, ⟨0, _⟩ => ⟨S768x384, .f32⟩
  | .local _ .vmem, ⟨1, _⟩ => ⟨S384x768, .f32⟩
  | .local _ .vmem, ⟨2, _⟩ => ⟨S17x768x384, .f32⟩
  | .local _ .vmem, ⟨3, _⟩ => ⟨S16x768x384, .f32⟩
  | .local _ .vmem, ⟨4, _⟩ => ⟨S4x768x768, .f32⟩
  | _, _ => ⟨S768x384, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_159 : BitVec 32 := 1#32
  let v190 : BitVec 32 := Scalar.muli v188 c1_i32_159
  let v191 : BitVec 32 := Scalar.addi c0_i32_160 v190
  v191.toNat
def k0_dev2 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_162 : BitVec 32 := 1#32
  let v192 : BitVec 32 := Scalar.muli v126 c1_i32_162
  let v193 : BitVec 32 := Scalar.addi c0_i32_163 v192
  v193.toNat
def k0_dev3 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_178 : BitVec 32 := 1#32
  let v204 : BitVec 32 := Scalar.muli v126 c1_i32_178
  let v205 : BitVec 32 := Scalar.addi c0_i32_179 v204
  v205.toNat
def k0_dev4 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_188 : BitVec 32 := 1#32
  let v214 : BitVec 32 := Scalar.muli v188 c1_i32_188
  let v215 : BitVec 32 := Scalar.addi c0_i32_189 v214
  v215.toNat
def k0_dev5 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_198 : BitVec 32 := 1#32
  let v224 : BitVec 32 := Scalar.muli v126 c1_i32_198
  let v225 : BitVec 32 := Scalar.addi c0_i32_199 v224
  v225.toNat
def k0_dev6 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_207 : BitVec 32 := 1#32
  let v234 : BitVec 32 := Scalar.muli v188 c1_i32_207
  let v235 : BitVec 32 := Scalar.addi c0_i32_208 v234
  v235.toNat
def k0_off1 (d0 : Dev nD) (c0_i32_214 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c6_i32_31 : BitVec 32 := 6#32
  let c30_i32_28 : BitVec 32 := 30#32
  let v61 : BitVec 1 := Scalar.cmpi .eq v2 c30_i32_28
  let c25_i32_29 : BitVec 32 := 25#32
  let c29_i32_26 : BitVec 32 := 29#32
  let v59 : BitVec 1 := Scalar.cmpi .eq v2 c29_i32_26
  let c24_i32_27 : BitVec 32 := 24#32
  let c28_i32_24 : BitVec 32 := 28#32
  let v57 : BitVec 1 := Scalar.cmpi .eq v2 c28_i32_24
  let c7_i32_25 : BitVec 32 := 7#32
  let c27_i32_22 : BitVec 32 := 27#32
  let v55 : BitVec 1 := Scalar.cmpi .eq v2 c27_i32_22
  let c12_i32_23 : BitVec 32 := 12#32
  let c26_i32_20 : BitVec 32 := 26#32
  let v53 : BitVec 1 := Scalar.cmpi .eq v2 c26_i32_20
  let c19_i32_21 : BitVec 32 := 19#32
  let c25_i32 : BitVec 32 := 25#32
  let v51 : BitVec 1 := Scalar.cmpi .eq v2 c25_i32
  let c18_i32_19 : BitVec 32 := 18#32
  let c24_i32 : BitVec 32 := 24#32
  let v49 : BitVec 1 := Scalar.cmpi .eq v2 c24_i32
  let c13_i32_18 : BitVec 32 := 13#32
  let c23_i32_16 : BitVec 32 := 23#32
  let v47 : BitVec 1 := Scalar.cmpi .eq v2 c23_i32_16
  let c5_i32_17 : BitVec 32 := 5#32
  let c22_i32_15 : BitVec 32 := 22#32
  let v45 : BitVec 1 := Scalar.cmpi .eq v2 c22_i32_15
  let c26_i32 : BitVec 32 := 26#32
  let c21_i32_14 : BitVec 32 := 21#32
  let v43 : BitVec 1 := Scalar.cmpi .eq v2 c21_i32_14
  let c23_i32 : BitVec 32 := 23#32
  let c20_i32_12 : BitVec 32 := 20#32
  let v41 : BitVec 1 := Scalar.cmpi .eq v2 c20_i32_12
  let c8_i32_13 : BitVec 32 := 8#32
  let c19_i32 : BitVec 32 := 19#32
  let v39 : BitVec 1 := Scalar.cmpi .eq v2 c19_i32
  let c11_i32_11 : BitVec 32 := 11#32
  let c18_i32 : BitVec 32 := 18#32
  let v37 : BitVec 1 := Scalar.cmpi .eq v2 c18_i32
  let c20_i32 : BitVec 32 := 20#32
  let c17_i32 : BitVec 32 := 17#32
  let v35 : BitVec 1 := Scalar.cmpi .eq v2 c17_i32
  let c17_i32_10 : BitVec 32 := 17#32
  let c16_i32_8 : BitVec 32 := 16#32
  let v33 : BitVec 1 := Scalar.cmpi .eq v2 c16_i32_8
  let c14_i32_9 : BitVec 32 := 14#32
  let c15_i32_6 : BitVec 32 := 15#32
  let v31 : BitVec 1 := Scalar.cmpi .eq v2 c15_i32_6
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c22_i32 : BitVec 32 := 22#32
  let c12_i32 : BitVec 32 := 12#32
  let v25 : BitVec 1 := Scalar.cmpi .eq v2 c12_i32
  let c9_i32_5 : BitVec 32 := 9#32
  let c11_i32 : BitVec 32 := 11#32
  let v23 : BitVec 1 := Scalar.cmpi .eq v2 c11_i32
  let c10_i32_4 : BitVec 32 := 10#32
  let c10_i32 : BitVec 32 := 10#32
  let v21 : BitVec 1 := Scalar.cmpi .eq v2 c10_i32
  let c21_i32 : BitVec 32 := 21#32
  let c9_i32 : BitVec 32 := 9#32
  let v19 : BitVec 1 := Scalar.cmpi .eq v2 c9_i32
  let c16_i32 : BitVec 32 := 16#32
  let c8_i32 : BitVec 32 := 8#32
  let v17 : BitVec 1 := Scalar.cmpi .eq v2 c8_i32
  let c15_i32 : BitVec 32 := 15#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c15_i32 v16
  let v20 : BitVec 32 := Scalar.select v19 c16_i32 v18
  let v22 : BitVec 32 := Scalar.select v21 c21_i32 v20
  let v24 : BitVec 32 := Scalar.select v23 c10_i32_4 v22
  let v26 : BitVec 32 := Scalar.select v25 c9_i32_5 v24
  let v28 : BitVec 32 := Scalar.select v27 c22_i32 v26
  let v30 : BitVec 32 := Scalar.select v29 c27_i32 v28
  let v32 : BitVec 32 := Scalar.select v31 c4_i32_7 v30
  let v34 : BitVec 32 := Scalar.select v33 c14_i32_9 v32
  let v36 : BitVec 32 := Scalar.select v35 c17_i32_10 v34
  let v38 : BitVec 32 := Scalar.select v37 c20_i32 v36
  let v40 : BitVec 32 := Scalar.select v39 c11_i32_11 v38
  let v42 : BitVec 32 := Scalar.select v41 c8_i32_13 v40
  let v44 : BitVec 32 := Scalar.select v43 c23_i32 v42
  let v46 : BitVec 32 := Scalar.select v45 c26_i32 v44
  let v48 : BitVec 32 := Scalar.select v47 c5_i32_17 v46
  let v50 : BitVec 32 := Scalar.select v49 c13_i32_18 v48
  let v52 : BitVec 32 := Scalar.select v51 c18_i32_19 v50
  let v54 : BitVec 32 := Scalar.select v53 c19_i32_21 v52
  let v56 : BitVec 32 := Scalar.select v55 c12_i32_23 v54
  let v58 : BitVec 32 := Scalar.select v57 c7_i32_25 v56
  let v60 : BitVec 32 := Scalar.select v59 c24_i32_27 v58
  let v62 : BitVec 32 := Scalar.select v61 c25_i32_29 v60
  let v64 : BitVec 32 := Scalar.select v63 c6_i32_31 v62
  let c32_i32_213 : BitVec 32 := 32#32
  let v244 : BitVec 32 := Scalar.addi v64 c32_i32_213
  let v245 : BitVec 32 := Scalar.addi v244 c0_i32_214
  let c32_i32_215 : BitVec 32 := 32#32
  let v246 : BitVec 32 := Scalar.remsi v245 c32_i32_215
  let c31_i32_277 : BitVec 32 := 31#32
  let v307 : BitVec 1 := Scalar.cmpi .eq v246 c31_i32_277
  let c1_i32_278 : BitVec 32 := 1#32
  let c30_i32_275 : BitVec 32 := 30#32
  let v305 : BitVec 1 := Scalar.cmpi .eq v246 c30_i32_275
  let c2_i32_276 : BitVec 32 := 2#32
  let c29_i32_273 : BitVec 32 := 29#32
  let v303 : BitVec 1 := Scalar.cmpi .eq v246 c29_i32_273
  let c5_i32_274 : BitVec 32 := 5#32
  let c28_i32_271 : BitVec 32 := 28#32
  let v301 : BitVec 1 := Scalar.cmpi .eq v246 c28_i32_271
  let c6_i32_272 : BitVec 32 := 6#32
  let c27_i32_269 : BitVec 32 := 27#32
  let v299 : BitVec 1 := Scalar.cmpi .eq v246 c27_i32_269
  let c14_i32_270 : BitVec 32 := 14#32
  let c26_i32_267 : BitVec 32 := 26#32
  let v297 : BitVec 1 := Scalar.cmpi .eq v246 c26_i32_267
  let c22_i32_268 : BitVec 32 := 22#32
  let c25_i32_265 : BitVec 32 := 25#32
  let v295 : BitVec 1 := Scalar.cmpi .eq v246 c25_i32_265
  let c30_i32_266 : BitVec 32 := 30#32
  let c24_i32_263 : BitVec 32 := 24#32
  let v293 : BitVec 1 := Scalar.cmpi .eq v246 c24_i32_263
  let c29_i32_264 : BitVec 32 := 29#32
  let c23_i32_261 : BitVec 32 := 23#32
  let v291 : BitVec 1 := Scalar.cmpi .eq v246 c23_i32_261
  let c21_i32_262 : BitVec 32 := 21#32
  let c22_i32_259 : BitVec 32 := 22#32
  let v289 : BitVec 1 := Scalar.cmpi .eq v246 c22_i32_259
  let c13_i32_260 : BitVec 32 := 13#32
  let c21_i32_257 : BitVec 32 := 21#32
  let v287 : BitVec 1 := Scalar.cmpi .eq v246 c21_i32_257
  let c10_i32_258 : BitVec 32 := 10#32
  let c20_i32_255 : BitVec 32 := 20#32
  let v285 : BitVec 1 := Scalar.cmpi .eq v246 c20_i32_255
  let c18_i32_256 : BitVec 32 := 18#32
  let c19_i32_253 : BitVec 32 := 19#32
  let v283 : BitVec 1 := Scalar.cmpi .eq v246 c19_i32_253
  let c26_i32_254 : BitVec 32 := 26#32
  let c18_i32_251 : BitVec 32 := 18#32
  let v281 : BitVec 1 := Scalar.cmpi .eq v246 c18_i32_251
  let c25_i32_252 : BitVec 32 := 25#32
  let c17_i32_249 : BitVec 32 := 17#32
  let v279 : BitVec 1 := Scalar.cmpi .eq v246 c17_i32_249
  let c17_i32_250 : BitVec 32 := 17#32
  let c16_i32_247 : BitVec 32 := 16#32
  let v277 : BitVec 1 := Scalar.cmpi .eq v246 c16_i32_247
  let c9_i32_248 : BitVec 32 := 9#32
  let c15_i32_245 : BitVec 32 := 15#32
  let v275 : BitVec 1 := Scalar.cmpi .eq v246 c15_i32_245
  let c8_i32_246 : BitVec 32 := 8#32
  let c14_i32_243 : BitVec 32 := 14#32
  let v273 : BitVec 1 := Scalar.cmpi .eq v246 c14_i32_243
  let c16_i32_244 : BitVec 32 := 16#32
  let c13_i32_241 : BitVec 32 := 13#32
  let v271 : BitVec 1 := Scalar.cmpi .eq v246 c13_i32_241
  let c24_i32_242 : BitVec 32 := 24#32
  let c12_i32_239 : BitVec 32 := 12#32
  let v269 : BitVec 1 := Scalar.cmpi .eq v246 c12_i32_239
  let c27_i32_240 : BitVec 32 := 27#32
  let c11_i32_237 : BitVec 32 := 11#32
  let v267 : BitVec 1 := Scalar.cmpi .eq v246 c11_i32_237
  let c19_i32_238 : BitVec 32 := 19#32
  let c10_i32_235 : BitVec 32 := 10#32
  let v265 : BitVec 1 := Scalar.cmpi .eq v246 c10_i32_235
  let c11_i32_236 : BitVec 32 := 11#32
  let c9_i32_233 : BitVec 32 := 9#32
  let v263 : BitVec 1 := Scalar.cmpi .eq v246 c9_i32_233
  let c12_i32_234 : BitVec 32 := 12#32
  let c8_i32_231 : BitVec 32 := 8#32
  let v261 : BitVec 1 := Scalar.cmpi .eq v246 c8_i32_231
  let c20_i32_232 : BitVec 32 := 20#32
  let c7_i32_229 : BitVec 32 := 7#32
  let v259 : BitVec 1 := Scalar.cmpi .eq v246 c7_i32_229
  let c28_i32_230 : BitVec 32 := 28#32
  let c6_i32_227 : BitVec 32 := 6#32
  let v257 : BitVec 1 := Scalar.cmpi .eq v246 c6_i32_227
  let c31_i32_228 : BitVec 32 := 31#32
  let c5_i32_225 : BitVec 32 := 5#32
  let v255 : BitVec 1 := Scalar.cmpi .eq v246 c5_i32_225
  let c23_i32_226 : BitVec 32 := 23#32
  let c4_i32_223 : BitVec 32 := 4#32
  let v253 : BitVec 1 := Scalar.cmpi .eq v246 c4_i32_223
  let c15_i32_224 : BitVec 32 := 15#32
  let c3_i32_221 : BitVec 32 := 3#32
  let v251 : BitVec 1 := Scalar.cmpi .eq v246 c3_i32_221
  let c7_i32_222 : BitVec 32 := 7#32
  let c2_i32_219 : BitVec 32 := 2#32
  let v249 : BitVec 1 := Scalar.cmpi .eq v246 c2_i32_219
  let c4_i32_220 : BitVec 32 := 4#32
  let c1_i32_216 : BitVec 32 := 1#32
  let v247 : BitVec 1 := Scalar.cmpi .eq v246 c1_i32_216
  let c3_i32_217 : BitVec 32 := 3#32
  let c0_i32_218 : BitVec 32 := 0#32
  let v248 : BitVec 32 := Scalar.select v247 c3_i32_217 c0_i32_218
  let v250 : BitVec 32 := Scalar.select v249 c4_i32_220 v248
  let v252 : BitVec 32 := Scalar.select v251 c7_i32_222 v250
  let v254 : BitVec 32 := Scalar.select v253 c15_i32_224 v252
  let v256 : BitVec 32 := Scalar.select v255 c23_i32_226 v254
  let v258 : BitVec 32 := Scalar.select v257 c31_i32_228 v256
  let v260 : BitVec 32 := Scalar.select v259 c28_i32_230 v258
  let v262 : BitVec 32 := Scalar.select v261 c20_i32_232 v260
  let v264 : BitVec 32 := Scalar.select v263 c12_i32_234 v262
  let v266 : BitVec 32 := Scalar.select v265 c11_i32_236 v264
  let v268 : BitVec 32 := Scalar.select v267 c19_i32_238 v266
  let v270 : BitVec 32 := Scalar.select v269 c27_i32_240 v268
  let v272 : BitVec 32 := Scalar.select v271 c24_i32_242 v270
  let v274 : BitVec 32 := Scalar.select v273 c16_i32_244 v272
  let v276 : BitVec 32 := Scalar.select v275 c8_i32_246 v274
  let v278 : BitVec 32 := Scalar.select v277 c9_i32_248 v276
  let v280 : BitVec 32 := Scalar.select v279 c17_i32_250 v278
  let v282 : BitVec 32 := Scalar.select v281 c25_i32_252 v280
  let v284 : BitVec 32 := Scalar.select v283 c26_i32_254 v282
  let v286 : BitVec 32 := Scalar.select v285 c18_i32_256 v284
  let v288 : BitVec 32 := Scalar.select v287 c10_i32_258 v286
  let v290 : BitVec 32 := Scalar.select v289 c13_i32_260 v288
  let v292 : BitVec 32 := Scalar.select v291 c21_i32_262 v290
  let v294 : BitVec 32 := Scalar.select v293 c29_i32_264 v292
  let v296 : BitVec 32 := Scalar.select v295 c30_i32_266 v294
  let v298 : BitVec 32 := Scalar.select v297 c22_i32_268 v296
  let v300 : BitVec 32 := Scalar.select v299 c14_i32_270 v298
  let v302 : BitVec 32 := Scalar.select v301 c6_i32_272 v300
  let v304 : BitVec 32 := Scalar.select v303 c5_i32_274 v302
  let v306 : BitVec 32 := Scalar.select v305 c2_i32_276 v304
  let v308 : BitVec 32 := Scalar.select v307 c1_i32_278 v306
  let c768_i32 : BitVec 32 := 768#32
  let v317 : BitVec 32 := Scalar.muli v308 c768_i32
  let c0_i32_289 : BitVec 32 := 0#32
  ![v317.toNat, 0]
def k0_off1_at (r : Fin 32) : BitVec 32 :=
  if r.val < 16 then
    if r.val < 8 then
      if r.val < 4 then
        if r.val < 2 then
          if r.val < 1 then
            0#32
          else
            4294967295#32
        else
          if r.val < 3 then
            1#32
          else
            4294967294#32
      else
        if r.val < 6 then
          if r.val < 5 then
            2#32
          else
            4294967293#32
        else
          if r.val < 7 then
            3#32
          else
            4294967292#32
    else
      if r.val < 12 then
        if r.val < 10 then
          if r.val < 9 then
            4#32
          else
            4294967291#32
        else
          if r.val < 11 then
            5#32
          else
            4294967290#32
      else
        if r.val < 14 then
          if r.val < 13 then
            6#32
          else
            4294967289#32
        else
          if r.val < 15 then
            7#32
          else
            4294967288#32
  else
    if r.val < 24 then
      if r.val < 20 then
        if r.val < 18 then
          if r.val < 17 then
            8#32
          else
            4294967287#32
        else
          if r.val < 19 then
            9#32
          else
            4294967286#32
      else
        if r.val < 22 then
          if r.val < 21 then
            10#32
          else
            4294967285#32
        else
          if r.val < 23 then
            11#32
          else
            4294967284#32
    else
      if r.val < 28 then
        if r.val < 26 then
          if r.val < 25 then
            12#32
          else
            4294967283#32
        else
          if r.val < 27 then
            13#32
          else
            4294967282#32
      else
        if r.val < 30 then
          if r.val < 29 then
            14#32
          else
            4294967281#32
        else
          if r.val < 31 then
            15#32
          else
            4294967280#32
def k0_dev7 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_306 : BitVec 32 := 1#32
  let v331 : BitVec 32 := Scalar.muli v126 c1_i32_306
  let v332 : BitVec 32 := Scalar.addi c0_i32_307 v331
  v332.toNat
def k0_dev8 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_326 : BitVec 32 := 1#32
  let v349 : BitVec 32 := Scalar.muli v188 c1_i32_326
  let v350 : BitVec 32 := Scalar.addi c0_i32_327 v349
  v350.toNat
def k0_dev9 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_346 : BitVec 32 := 1#32
  let v367 : BitVec 32 := Scalar.muli v126 c1_i32_346
  let v368 : BitVec 32 := Scalar.addi c0_i32_347 v367
  v368.toNat
def k0_dev10 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_366 : BitVec 32 := 1#32
  let v385 : BitVec 32 := Scalar.muli v188 c1_i32_366
  let v386 : BitVec 32 := Scalar.addi c0_i32_367 v385
  v386.toNat
def k0_dev11 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_544 : BitVec 32 := 1#32
  let v561 : BitVec 32 := Scalar.muli v126 c1_i32_544
  let v562 : BitVec 32 := Scalar.addi c0_i32_545 v561
  v562.toNat
def k0_dev12 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_564 : BitVec 32 := 1#32
  let v579 : BitVec 32 := Scalar.muli v188 c1_i32_564
  let v580 : BitVec 32 := Scalar.addi c0_i32_565 v579
  v580.toNat
def k0_dev13 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_584 : BitVec 32 := 1#32
  let v597 : BitVec 32 := Scalar.muli v126 c1_i32_584
  let v598 : BitVec 32 := Scalar.addi c0_i32_585 v597
  v598.toNat
def k0_dev14 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_604 : BitVec 32 := 1#32
  let v615 : BitVec 32 := Scalar.muli v188 c1_i32_604
  let v616 : BitVec 32 := Scalar.addi c0_i32_605 v615
  v616.toNat
def k0_dev15 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_790 : BitVec 32 := 1#32
  let v796 : BitVec 32 := Scalar.muli v126 c1_i32_790
  let v797 : BitVec 32 := Scalar.addi c0_i32_791 v796
  v797.toNat
def k0_dev16 (d0 : Dev nD) : Nat :=
  let c0_i32_811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_810 : BitVec 32 := 1#32
  let v814 : BitVec 32 := Scalar.muli v188 c1_i32_810
  let v815 : BitVec 32 := Scalar.addi c0_i32_811 v814
  v815.toNat
def k0_dev17 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_830 : BitVec 32 := 1#32
  let v832 : BitVec 32 := Scalar.muli v126 c1_i32_830
  let v833 : BitVec 32 := Scalar.addi c0_i32_831 v832
  v833.toNat
def k0_dev18 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_850 : BitVec 32 := 1#32
  let v850 : BitVec 32 := Scalar.muli v188 c1_i32_850
  let v851 : BitVec 32 := Scalar.addi c0_i32_851 v850
  v851.toNat
def k0_dev19 (d0 : Dev nD) : Nat :=
  let c0_i32_1042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1041 : BitVec 32 := 1#32
  let v1036 : BitVec 32 := Scalar.muli v126 c1_i32_1041
  let v1037 : BitVec 32 := Scalar.addi c0_i32_1042 v1036
  v1037.toNat
def k0_dev20 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1061 : BitVec 32 := 1#32
  let v1054 : BitVec 32 := Scalar.muli v188 c1_i32_1061
  let v1055 : BitVec 32 := Scalar.addi c0_i32_1062 v1054
  v1055.toNat
def k0_dev21 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1081 : BitVec 32 := 1#32
  let v1072 : BitVec 32 := Scalar.muli v126 c1_i32_1081
  let v1073 : BitVec 32 := Scalar.addi c0_i32_1082 v1072
  v1073.toNat
def k0_dev22 (d0 : Dev nD) : Nat :=
  let c0_i32_1102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1101 : BitVec 32 := 1#32
  let v1090 : BitVec 32 := Scalar.muli v188 c1_i32_1101
  let v1091 : BitVec 32 := Scalar.addi c0_i32_1102 v1090
  v1091.toNat
def k0_dev23 (d0 : Dev nD) : Nat :=
  let c0_i32_1292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1291 : BitVec 32 := 1#32
  let v1276 : BitVec 32 := Scalar.muli v126 c1_i32_1291
  let v1277 : BitVec 32 := Scalar.addi c0_i32_1292 v1276
  v1277.toNat
def k0_dev24 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1311 : BitVec 32 := 1#32
  let v1294 : BitVec 32 := Scalar.muli v188 c1_i32_1311
  let v1295 : BitVec 32 := Scalar.addi c0_i32_1312 v1294
  v1295.toNat
def k0_dev25 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1331 : BitVec 32 := 1#32
  let v1312 : BitVec 32 := Scalar.muli v126 c1_i32_1331
  let v1313 : BitVec 32 := Scalar.addi c0_i32_1332 v1312
  v1313.toNat
def k0_dev26 (d0 : Dev nD) : Nat :=
  let c0_i32_1352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1351 : BitVec 32 := 1#32
  let v1330 : BitVec 32 := Scalar.muli v188 c1_i32_1351
  let v1331 : BitVec 32 := Scalar.addi c0_i32_1352 v1330
  v1331.toNat
def k0_dev27 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1541 : BitVec 32 := 1#32
  let v1516 : BitVec 32 := Scalar.muli v126 c1_i32_1541
  let v1517 : BitVec 32 := Scalar.addi c0_i32_1542 v1516
  v1517.toNat
def k0_dev28 (d0 : Dev nD) : Nat :=
  let c0_i32_1562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1561 : BitVec 32 := 1#32
  let v1534 : BitVec 32 := Scalar.muli v188 c1_i32_1561
  let v1535 : BitVec 32 := Scalar.addi c0_i32_1562 v1534
  v1535.toNat
def k0_dev29 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1581 : BitVec 32 := 1#32
  let v1552 : BitVec 32 := Scalar.muli v126 c1_i32_1581
  let v1553 : BitVec 32 := Scalar.addi c0_i32_1582 v1552
  v1553.toNat
def k0_dev30 (d0 : Dev nD) : Nat :=
  let c0_i32_1602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1601 : BitVec 32 := 1#32
  let v1570 : BitVec 32 := Scalar.muli v188 c1_i32_1601
  let v1571 : BitVec 32 := Scalar.addi c0_i32_1602 v1570
  v1571.toNat
def k0_dev31 (d0 : Dev nD) : Nat :=
  let c0_i32_1792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1791 : BitVec 32 := 1#32
  let v1756 : BitVec 32 := Scalar.muli v126 c1_i32_1791
  let v1757 : BitVec 32 := Scalar.addi c0_i32_1792 v1756
  v1757.toNat
def k0_dev32 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1811 : BitVec 32 := 1#32
  let v1774 : BitVec 32 := Scalar.muli v188 c1_i32_1811
  let v1775 : BitVec 32 := Scalar.addi c0_i32_1812 v1774
  v1775.toNat
def k0_dev33 (d0 : Dev nD) : Nat :=
  let c0_i32_1832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_1831 : BitVec 32 := 1#32
  let v1792 : BitVec 32 := Scalar.muli v126 c1_i32_1831
  let v1793 : BitVec 32 := Scalar.addi c0_i32_1832 v1792
  v1793.toNat
def k0_dev34 (d0 : Dev nD) : Nat :=
  let c0_i32_1852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_1851 : BitVec 32 := 1#32
  let v1810 : BitVec 32 := Scalar.muli v188 c1_i32_1851
  let v1811 : BitVec 32 := Scalar.addi c0_i32_1852 v1810
  v1811.toNat
def k0_dev35 (d0 : Dev nD) : Nat :=
  let c0_i32_2042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2041 : BitVec 32 := 1#32
  let v1996 : BitVec 32 := Scalar.muli v126 c1_i32_2041
  let v1997 : BitVec 32 := Scalar.addi c0_i32_2042 v1996
  v1997.toNat
def k0_dev36 (d0 : Dev nD) : Nat :=
  let c0_i32_2062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2061 : BitVec 32 := 1#32
  let v2014 : BitVec 32 := Scalar.muli v188 c1_i32_2061
  let v2015 : BitVec 32 := Scalar.addi c0_i32_2062 v2014
  v2015.toNat
def k0_dev37 (d0 : Dev nD) : Nat :=
  let c0_i32_2082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2081 : BitVec 32 := 1#32
  let v2032 : BitVec 32 := Scalar.muli v126 c1_i32_2081
  let v2033 : BitVec 32 := Scalar.addi c0_i32_2082 v2032
  v2033.toNat
def k0_dev38 (d0 : Dev nD) : Nat :=
  let c0_i32_2102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2101 : BitVec 32 := 1#32
  let v2050 : BitVec 32 := Scalar.muli v188 c1_i32_2101
  let v2051 : BitVec 32 := Scalar.addi c0_i32_2102 v2050
  v2051.toNat
def k0_dev39 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2291 : BitVec 32 := 1#32
  let v2236 : BitVec 32 := Scalar.muli v126 c1_i32_2291
  let v2237 : BitVec 32 := Scalar.addi c0_i32_2292 v2236
  v2237.toNat
def k0_dev40 (d0 : Dev nD) : Nat :=
  let c0_i32_2312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2311 : BitVec 32 := 1#32
  let v2254 : BitVec 32 := Scalar.muli v188 c1_i32_2311
  let v2255 : BitVec 32 := Scalar.addi c0_i32_2312 v2254
  v2255.toNat
def k0_dev41 (d0 : Dev nD) : Nat :=
  let c0_i32_2332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2331 : BitVec 32 := 1#32
  let v2272 : BitVec 32 := Scalar.muli v126 c1_i32_2331
  let v2273 : BitVec 32 := Scalar.addi c0_i32_2332 v2272
  v2273.toNat
def k0_dev42 (d0 : Dev nD) : Nat :=
  let c0_i32_2352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2351 : BitVec 32 := 1#32
  let v2290 : BitVec 32 := Scalar.muli v188 c1_i32_2351
  let v2291 : BitVec 32 := Scalar.addi c0_i32_2352 v2290
  v2291.toNat
def k0_dev43 (d0 : Dev nD) : Nat :=
  let c0_i32_2542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2541 : BitVec 32 := 1#32
  let v2476 : BitVec 32 := Scalar.muli v126 c1_i32_2541
  let v2477 : BitVec 32 := Scalar.addi c0_i32_2542 v2476
  v2477.toNat
def k0_dev44 (d0 : Dev nD) : Nat :=
  let c0_i32_2562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2561 : BitVec 32 := 1#32
  let v2494 : BitVec 32 := Scalar.muli v188 c1_i32_2561
  let v2495 : BitVec 32 := Scalar.addi c0_i32_2562 v2494
  v2495.toNat
def k0_dev45 (d0 : Dev nD) : Nat :=
  let c0_i32_2582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2581 : BitVec 32 := 1#32
  let v2512 : BitVec 32 := Scalar.muli v126 c1_i32_2581
  let v2513 : BitVec 32 := Scalar.addi c0_i32_2582 v2512
  v2513.toNat
def k0_dev46 (d0 : Dev nD) : Nat :=
  let c0_i32_2602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2601 : BitVec 32 := 1#32
  let v2530 : BitVec 32 := Scalar.muli v188 c1_i32_2601
  let v2531 : BitVec 32 := Scalar.addi c0_i32_2602 v2530
  v2531.toNat
def k0_dev47 (d0 : Dev nD) : Nat :=
  let c0_i32_2792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2791 : BitVec 32 := 1#32
  let v2716 : BitVec 32 := Scalar.muli v126 c1_i32_2791
  let v2717 : BitVec 32 := Scalar.addi c0_i32_2792 v2716
  v2717.toNat
def k0_dev48 (d0 : Dev nD) : Nat :=
  let c0_i32_2812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2811 : BitVec 32 := 1#32
  let v2734 : BitVec 32 := Scalar.muli v188 c1_i32_2811
  let v2735 : BitVec 32 := Scalar.addi c0_i32_2812 v2734
  v2735.toNat
def k0_dev49 (d0 : Dev nD) : Nat :=
  let c0_i32_2832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_2831 : BitVec 32 := 1#32
  let v2752 : BitVec 32 := Scalar.muli v126 c1_i32_2831
  let v2753 : BitVec 32 := Scalar.addi c0_i32_2832 v2752
  v2753.toNat
def k0_dev50 (d0 : Dev nD) : Nat :=
  let c0_i32_2852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_2851 : BitVec 32 := 1#32
  let v2770 : BitVec 32 := Scalar.muli v188 c1_i32_2851
  let v2771 : BitVec 32 := Scalar.addi c0_i32_2852 v2770
  v2771.toNat
def k0_dev51 (d0 : Dev nD) : Nat :=
  let c0_i32_3042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3041 : BitVec 32 := 1#32
  let v2956 : BitVec 32 := Scalar.muli v126 c1_i32_3041
  let v2957 : BitVec 32 := Scalar.addi c0_i32_3042 v2956
  v2957.toNat
def k0_dev52 (d0 : Dev nD) : Nat :=
  let c0_i32_3062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_3061 : BitVec 32 := 1#32
  let v2974 : BitVec 32 := Scalar.muli v188 c1_i32_3061
  let v2975 : BitVec 32 := Scalar.addi c0_i32_3062 v2974
  v2975.toNat
def k0_dev53 (d0 : Dev nD) : Nat :=
  let c0_i32_3082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3081 : BitVec 32 := 1#32
  let v2992 : BitVec 32 := Scalar.muli v126 c1_i32_3081
  let v2993 : BitVec 32 := Scalar.addi c0_i32_3082 v2992
  v2993.toNat
def k0_dev54 (d0 : Dev nD) : Nat :=
  let c0_i32_3102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_3101 : BitVec 32 := 1#32
  let v3010 : BitVec 32 := Scalar.muli v188 c1_i32_3101
  let v3011 : BitVec 32 := Scalar.addi c0_i32_3102 v3010
  v3011.toNat
def k0_dev55 (d0 : Dev nD) : Nat :=
  let c0_i32_3292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3291 : BitVec 32 := 1#32
  let v3196 : BitVec 32 := Scalar.muli v126 c1_i32_3291
  let v3197 : BitVec 32 := Scalar.addi c0_i32_3292 v3196
  v3197.toNat
def k0_dev56 (d0 : Dev nD) : Nat :=
  let c0_i32_3312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_3311 : BitVec 32 := 1#32
  let v3214 : BitVec 32 := Scalar.muli v188 c1_i32_3311
  let v3215 : BitVec 32 := Scalar.addi c0_i32_3312 v3214
  v3215.toNat
def k0_dev57 (d0 : Dev nD) : Nat :=
  let c0_i32_3332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3331 : BitVec 32 := 1#32
  let v3232 : BitVec 32 := Scalar.muli v126 c1_i32_3331
  let v3233 : BitVec 32 := Scalar.addi c0_i32_3332 v3232
  v3233.toNat
def k0_dev58 (d0 : Dev nD) : Nat :=
  let c0_i32_3352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_3351 : BitVec 32 := 1#32
  let v3250 : BitVec 32 := Scalar.muli v188 c1_i32_3351
  let v3251 : BitVec 32 := Scalar.addi c0_i32_3352 v3250
  v3251.toNat
def k0_dev59 (d0 : Dev nD) : Nat :=
  let c0_i32_3542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3541 : BitVec 32 := 1#32
  let v3436 : BitVec 32 := Scalar.muli v126 c1_i32_3541
  let v3437 : BitVec 32 := Scalar.addi c0_i32_3542 v3436
  v3437.toNat
def k0_dev60 (d0 : Dev nD) : Nat :=
  let c0_i32_3562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_3561 : BitVec 32 := 1#32
  let v3454 : BitVec 32 := Scalar.muli v188 c1_i32_3561
  let v3455 : BitVec 32 := Scalar.addi c0_i32_3562 v3454
  v3455.toNat
def k0_dev61 (d0 : Dev nD) : Nat :=
  let c0_i32_3582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3581 : BitVec 32 := 1#32
  let v3472 : BitVec 32 := Scalar.muli v126 c1_i32_3581
  let v3473 : BitVec 32 := Scalar.addi c0_i32_3582 v3472
  v3473.toNat
def k0_dev62 (d0 : Dev nD) : Nat :=
  let c0_i32_3602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c21_i32_153 : BitVec 32 := 21#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c19_i32_149 : BitVec 32 := 19#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c17_i32_145 : BitVec 32 := 17#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c15_i32_141 : BitVec 32 := 15#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c13_i32_137 : BitVec 32 := 13#32
  let c20_i32_134 : BitVec 32 := 20#32
  let v165 : BitVec 1 := Scalar.cmpi .eq v2 c20_i32_134
  let c28_i32_135 : BitVec 32 := 28#32
  let c19_i32_132 : BitVec 32 := 19#32
  let v163 : BitVec 1 := Scalar.cmpi .eq v2 c19_i32_132
  let c11_i32_133 : BitVec 32 := 11#32
  let c18_i32_130 : BitVec 32 := 18#32
  let v161 : BitVec 1 := Scalar.cmpi .eq v2 c18_i32_130
  let c26_i32_131 : BitVec 32 := 26#32
  let c17_i32_128 : BitVec 32 := 17#32
  let v159 : BitVec 1 := Scalar.cmpi .eq v2 c17_i32_128
  let c9_i32_129 : BitVec 32 := 9#32
  let c16_i32_126 : BitVec 32 := 16#32
  let v157 : BitVec 1 := Scalar.cmpi .eq v2 c16_i32_126
  let c24_i32_127 : BitVec 32 := 24#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c22_i32_123 : BitVec 32 := 22#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c20_i32_119 : BitVec 32 := 20#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c18_i32_115 : BitVec 32 := 18#32
  let c9_i32_112 : BitVec 32 := 9#32
  let v143 : BitVec 1 := Scalar.cmpi .eq v2 c9_i32_112
  let c8_i32_113 : BitVec 32 := 8#32
  let c8_i32_110 : BitVec 32 := 8#32
  let v141 : BitVec 1 := Scalar.cmpi .eq v2 c8_i32_110
  let c16_i32_111 : BitVec 32 := 16#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c16_i32_111 v140
  let v144 : BitVec 32 := Scalar.select v143 c8_i32_113 v142
  let v146 : BitVec 32 := Scalar.select v145 c18_i32_115 v144
  let v148 : BitVec 32 := Scalar.select v147 c12_i32_117 v146
  let v150 : BitVec 32 := Scalar.select v149 c20_i32_119 v148
  let v152 : BitVec 32 := Scalar.select v151 c10_i32_121 v150
  let v154 : BitVec 32 := Scalar.select v153 c22_i32_123 v152
  let v156 : BitVec 32 := Scalar.select v155 c7_i32_125 v154
  let v158 : BitVec 32 := Scalar.select v157 c24_i32_127 v156
  let v160 : BitVec 32 := Scalar.select v159 c9_i32_129 v158
  let v162 : BitVec 32 := Scalar.select v161 c26_i32_131 v160
  let v164 : BitVec 32 := Scalar.select v163 c11_i32_133 v162
  let v166 : BitVec 32 := Scalar.select v165 c28_i32_135 v164
  let v168 : BitVec 32 := Scalar.select v167 c13_i32_137 v166
  let v170 : BitVec 32 := Scalar.select v169 c30_i32_139 v168
  let v172 : BitVec 32 := Scalar.select v171 c15_i32_141 v170
  let v174 : BitVec 32 := Scalar.select v173 c27_i32_143 v172
  let v176 : BitVec 32 := Scalar.select v175 c17_i32_145 v174
  let v178 : BitVec 32 := Scalar.select v177 c25_i32_147 v176
  let v180 : BitVec 32 := Scalar.select v179 c19_i32_149 v178
  let v182 : BitVec 32 := Scalar.select v181 c31_i32_151 v180
  let v184 : BitVec 32 := Scalar.select v183 c21_i32_153 v182
  let v186 : BitVec 32 := Scalar.select v185 c29_i32_155 v184
  let v188 : BitVec 32 := Scalar.select v187 c23_i32_157 v186
  let c1_i32_3601 : BitVec 32 := 1#32
  let v3490 : BitVec 32 := Scalar.muli v188 c1_i32_3601
  let v3491 : BitVec 32 := Scalar.addi c0_i32_3602 v3490
  v3491.toNat
def k0_dev63 (d0 : Dev nD) : Nat :=
  let c0_i32_3792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3791 : BitVec 32 := 1#32
  let v3676 : BitVec 32 := Scalar.muli v126 c1_i32_3791
  let v3677 : BitVec 32 := Scalar.addi c0_i32_3792 v3676
  v3677.toNat
def k0_dev64 (d0 : Dev nD) : Nat :=
  let c0_i32_3822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c20_i32_88 : BitVec 32 := 20#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c18_i32_84 : BitVec 32 := 18#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c16_i32_80 : BitVec 32 := 16#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c14_i32_76 : BitVec 32 := 14#32
  let c21_i32_73 : BitVec 32 := 21#32
  let v105 : BitVec 1 := Scalar.cmpi .eq v2 c21_i32_73
  let c29_i32_74 : BitVec 32 := 29#32
  let c20_i32_71 : BitVec 32 := 20#32
  let v103 : BitVec 1 := Scalar.cmpi .eq v2 c20_i32_71
  let c12_i32_72 : BitVec 32 := 12#32
  let c19_i32_69 : BitVec 32 := 19#32
  let v101 : BitVec 1 := Scalar.cmpi .eq v2 c19_i32_69
  let c27_i32_70 : BitVec 32 := 27#32
  let c18_i32_67 : BitVec 32 := 18#32
  let v99 : BitVec 1 := Scalar.cmpi .eq v2 c18_i32_67
  let c10_i32_68 : BitVec 32 := 10#32
  let c17_i32_65 : BitVec 32 := 17#32
  let v97 : BitVec 1 := Scalar.cmpi .eq v2 c17_i32_65
  let c25_i32_66 : BitVec 32 := 25#32
  let c16_i32_63 : BitVec 32 := 16#32
  let v95 : BitVec 1 := Scalar.cmpi .eq v2 c16_i32_63
  let c8_i32_64 : BitVec 32 := 8#32
  let c15_i32_61 : BitVec 32 := 15#32
  let v93 : BitVec 1 := Scalar.cmpi .eq v2 c15_i32_61
  let c23_i32_62 : BitVec 32 := 23#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c21_i32_58 : BitVec 32 := 21#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c19_i32_54 : BitVec 32 := 19#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c17_i32_50 : BitVec 32 := 17#32
  let c8_i32_47 : BitVec 32 := 8#32
  let v79 : BitVec 1 := Scalar.cmpi .eq v2 c8_i32_47
  let c9_i32_48 : BitVec 32 := 9#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c9_i32_48 v78
  let v82 : BitVec 32 := Scalar.select v81 c17_i32_50 v80
  let v84 : BitVec 32 := Scalar.select v83 c13_i32_52 v82
  let v86 : BitVec 32 := Scalar.select v85 c19_i32_54 v84
  let v88 : BitVec 32 := Scalar.select v87 c11_i32_56 v86
  let v90 : BitVec 32 := Scalar.select v89 c21_i32_58 v88
  let v92 : BitVec 32 := Scalar.select v91 c6_i32_60 v90
  let v94 : BitVec 32 := Scalar.select v93 c23_i32_62 v92
  let v96 : BitVec 32 := Scalar.select v95 c8_i32_64 v94
  let v98 : BitVec 32 := Scalar.select v97 c25_i32_66 v96
  let v100 : BitVec 32 := Scalar.select v99 c10_i32_68 v98
  let v102 : BitVec 32 := Scalar.select v101 c27_i32_70 v100
  let v104 : BitVec 32 := Scalar.select v103 c12_i32_72 v102
  let v106 : BitVec 32 := Scalar.select v105 c29_i32_74 v104
  let v108 : BitVec 32 := Scalar.select v107 c14_i32_76 v106
  let v110 : BitVec 32 := Scalar.select v109 c31_i32_78 v108
  let v112 : BitVec 32 := Scalar.select v111 c16_i32_80 v110
  let v114 : BitVec 32 := Scalar.select v113 c26_i32_82 v112
  let v116 : BitVec 32 := Scalar.select v115 c18_i32_84 v114
  let v118 : BitVec 32 := Scalar.select v117 c24_i32_86 v116
  let v120 : BitVec 32 := Scalar.select v119 c20_i32_88 v118
  let v122 : BitVec 32 := Scalar.select v121 c30_i32_90 v120
  let v124 : BitVec 32 := Scalar.select v123 c22_i32_92 v122
  let v126 : BitVec 32 := Scalar.select v125 c28_i32_94 v124
  let c1_i32_3821 : BitVec 32 := 1#32
  let v3702 : BitVec 32 := Scalar.muli v126 c1_i32_3821
  let v3703 : BitVec 32 := Scalar.addi c0_i32_3822 v3702
  v3703.toNat
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S24576x384 : Shape := ⟨2, ![24576, 384]⟩
abbrev S384x768 : Shape := ⟨2, ![384, 768]⟩
abbrev S24576x768 : Shape := ⟨2, ![24576, 768]⟩

abbrev nBuf : Space → Nat
  | .hbm => 3
  | .vmem => 0
  | .smem => 0
  | _ => 0

abbrev bufTy : (tb : Table) → Fin (tcTables nBuf tb) → BufTy
  | .hbm, ⟨0, _⟩ => ⟨S24576x384, .f32⟩
  | .hbm, ⟨1, _⟩ => ⟨S384x768, .f32⟩
  | .hbm, ⟨2, _⟩ => ⟨S24576x768, .f32⟩
  | _, _ => ⟨S24576x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Struct.lean ====
/- The kernel's body as a short structured program: one definition per kind of step (a half-block hop, a wait, a
   product), indexed by direction and number, and the theorem that the printed body is exactly this program. -/
module

public import proofs.«01_k».proof.Proof.Gen.KernelIdeal
public import proofs.«01_k».proof.Proof.Gen.KernelIdeal.Points

@[expose] public section

noncomputable section

namespace Cert.KernelIdeal.Hop

open Idealize.ShloMosaic Idealize.ShloMosaic.TcCoe Idealize.SL.Sem
open Cert.KernelIdeal.Gen

variable {F : FTy → Type} [FloatOps F]

/-! ## Directions: `true` is the chain of transfers to the right neighbour, `false` the one to the left -/

/-- How many block slots a direction's gather buffer has. -/
def nS (b : Bool) : ℕ := if b then 17 else 16
/-- How many half-block hops a direction makes. -/
def nH (b : Bool) : ℕ := if b then 32 else 30
/-- How many products a direction's blocks give. -/
def nI (b : Bool) : ℕ := if b then 17 else 15
/-- The slot of a direction's first product: the device's own block counts once, on the right. -/
def c0 (b : Bool) : ℕ := if b then 0 else 1

theorem nS_eq (b : Bool) : 2 * nS b = nH b + 2 := by cases b <;> rfl
theorem nI_eq (b : Bool) : nI b + c0 b = nS b := by cases b <;> rfl

/-- The gather buffer's shape. -/
abbrev SG (b : Bool) : Shape := ⟨3, ![nS b, 768, 384]⟩

/-- The gather buffers. -/
def gat : (b : Bool) → Memref sig .tc .vmem (SG b) .f32
  | true => Memref.whole cc0_scratch0
  | false => Memref.whole cc0_scratch1
/-- The product buffers. -/
abbrev cb : Memref sig .tc .vmem S4x768x768 .f32 := Memref.whole cc0_scratch2
/-- The result. -/
abbrev outM : Memref sig .tc .hbm S24576x768 .f32 := Memref.whole main_v1

theorem gat_notSc (b : Bool) : (gat b).view.ref.isScScratch = false := by cases b <;> rfl

/-! ## Semaphores -/

theorem send_lt {b : Bool} {s : ℕ} (h : s < nH b) : (if b then 2 + s else 66 + s) < 130 := by
  cases b <;> simp [nH] at h ⊢ <;> omega
theorem recv_lt {b : Bool} {s : ℕ} (h : s < nH b) : (if b then 34 + s else 96 + s) < 130 := by
  cases b <;> simp [nH] at h ⊢ <;> omega
/-- The semaphore hop `s` of direction `b` completes on at its sender. -/
def sendS (b : Bool) (s : ℕ) (h : s < nH b) : DmaSem sig := ⟨if b then 2 + s else 66 + s, send_lt h⟩
/-- The semaphore hop `s` of direction `b` completes on at its receiver. -/
def recvS (b : Bool) (s : ℕ) (h : s < nH b) : DmaSem sig := ⟨if b then 34 + s else 96 + s, recv_lt h⟩
/-- The product buffer of a direction's product `i`: two per direction, by the slot's parity. -/
def qOf (b : Bool) (i : ℕ) : Fin 4 :=
  ⟨2 * ((i + c0 b) % 2) + c0 b, by have := Nat.mod_lt (i + c0 b) (show 2 > 0 by decide); cases b <;> simp [c0] at this ⊢ <;> omega⟩
/-- The semaphore a product buffer's copy to the result completes on. -/
def outS (q : Fin 4) : DmaSem sig := ⟨126 + q.val, show 126 + q.val < 130 by omega⟩
/-- The entry barrier. -/
abbrev barS := (SemArray.scalar (sig.barrier 0 rfl) : Sems sig S_).sem

/-! ## Views -/

theorem half_inb {b : Bool} {u : ℕ} (h : u < 2 * nS b) :
    ∀ a, (![u / 2, u % 2 * 384, 0] : Fin 3 → ℕ) a + S1x384x384.size a ≤ (SG b).size a := by
  have := Nat.mod_lt u (show 2 > 0 by decide)
  intro a; fin_cases a <;> simp <;> omega
/-- Half block `u` of a gather buffer: half `u % 2` of slot `u / 2`. -/
def half (b : Bool) (u : ℕ) (h : u < 2 * nS b) : Memref sig .tc .vmem S384x384 .f32 :=
  ((gat b).slice (Rect.unit (s := SG b) ![u / 2, u % 2 * 384, 0] S1x384x384.size (half_inb h)) (fun _ => rfl)).squeeze S384x384 squeezes_S1x384x384_S384x384

theorem slot_inb {b : Bool} {c : ℕ} (h : c < nS b) :
    ∀ a, (![c, 0, 0] : Fin 3 → ℕ) a + S1x768x384.size a ≤ (SG b).size a := by
  intro a; fin_cases a <;> simp <;> omega
/-- Slot `c` of a gather buffer, as a rectangle. -/
abbrev slotR (b : Bool) (c : ℕ) (h : c < nS b) : Rect (SG b) := Rect.unit (s := SG b) ![c, 0, 0] S1x768x384.size (slot_inb h)

theorem cb_inb (q : Fin 4) : ∀ a, (![q.val, 0, 0] : Fin 3 → ℕ) a + S1x768x768.size a ≤ S4x768x768.size a := by
  intro a; fin_cases a <;> simp <;> omega
/-- Product buffer `q`, as a rectangle. -/
abbrev cbR (q : Fin 4) : Rect S4x768x768 := Rect.unit (s := S4x768x768) ![q.val, 0, 0] S1x768x768.size (cb_inb q)
/-- Product buffer `q`, as a copy's source. -/
abbrev cbM (q : Fin 4) : Memref sig .tc .vmem S768x768 .f32 := (cb.slice (cbR q) (fun _ => rfl)).squeeze S768x768 squeezes_S1x768x768_S768x768

/-- The place of product `i` of direction `b` in the kernel's list of block offsets. -/
def offIx (b : Bool) (i : Fin (nI b)) : Fin 32 :=
  match b, i with
  | true, i => if h : i.val = 16 then 31 else if i.val = 0 then 0 else ⟨2 * i.val - 1, by have := i.2; simp [nI] at this; omega⟩
  | false, i => ⟨2 * (i.val + 1), by have := i.2; simp [nI] at this; omega⟩
/-- The block of result rows product `i` of direction `b` fills. -/
abbrev outBlk (d : Dev nD) (b : Bool) (i : Fin (nI b)) : Memref sig .tc .hbm S768x768 .f32 :=
  outM.slice (Rect.unit (s := S24576x768) (k0_off1 d (k0_off1_at (offIx b i))) S768x768.size (k0_off1_inb d (offIx b i))) (fun _ => rfl)

/-! ## Steps -/

/-- The kernel's programs. -/
abbrev P (F : FTy → Type) [FloatOps F] := Prog (TpuEff nD τ sig (Elt F) Λ₀ .tc) PUnit

/-- The neighbour a direction sends to. -/
def peer (b : Bool) (d : Dev nD) : Dev nD :=
  match b with
  | true => ⟨k0_dev3 d, k0_dev3_lt d⟩
  | false => ⟨k0_dev4 d, k0_dev4_lt d⟩

theorem src_lt {b : Bool} {s : ℕ} (h : s < nH b) : s < 2 * nS b := by rw [nS_eq]; omega
theorem dst_lt {b : Bool} {s : ℕ} (h : s < nH b) : s + 2 < 2 * nS b := by rw [nS_eq]; omega

theorem slot_stores (b : Bool) (c : ℕ) (h : c < nS b) : ((gat b).access (slotR b c h)).Stores Finset.univ := View.stores_vmem_bits_univ h_S1x768x384 rfl
theorem half_we (b : Bool) (u : ℕ) (h : u < 2 * nS b) : (half b u h).view.WordExact := (View.wordExact_bits rfl).reshape _ _
theorem cbM_we (q : Fin 4) : (cbM q).view.WordExact := (View.wordExact_bits rfl).reshape _ _
theorem outBlk_we (d : Dev nD) (b : Bool) (i : Fin (nI b)) : (outBlk d b i).view.WordExact := View.wordExact_bits rfl

/-- Hop `s`: half block `s` to half block `s + 2` of the neighbour's gather buffer. -/
def hop (d : Dev nD) (b : Bool) (s : ℕ) (h : s < nH b) (k : P F) : P F :=
  .op (.enqueueDma (half b s (src_lt h)) (.remote (Dev.tc (peer b d)) (half b (s + 2) (dst_lt h)) (.dma (sendS b s h)) (gat_notSc b))
    (.dma (recvS b s h)) (half_we b s (src_lt h)) (half_we b (s + 2) (dst_lt h)) ⟨⟨rfl, Or.inl rfl⟩, trivial⟩) fun _ => k

/-- The wait for hop `s` to have arrived. -/
def recv (b : Bool) (s : ℕ) (h : s < nH b) (k : P F) : P F :=
  .op (.waitDma2 (recvS b s h) (half b s (src_lt h)) (half b (s + 2) (dst_lt h)) (half_we _ _ _) (half_we _ _ _)) fun _ => k

/-- The wait for hop `s` to have left. -/
def sent (b : Bool) (s : ℕ) (h : s < nH b) (k : P F) : P F :=
  .op (.waitDma2 (sendS b s h) (half b (s + 2) (dst_lt h)) (half b s (src_lt h)) (half_we _ _ _) (half_we _ _ _)) fun _ => k

/-- The wait for product `i`'s copy to the result. -/
def waitOut (d : Dev nD) (b : Bool) (i : Fin (nI b)) (k : P F) : P F :=
  .op (.waitDma2 (outS (qOf b i)) (cbM (qOf b i)) (outBlk d b i) (cbM_we _) (outBlk_we d b i)) fun _ => k

theorem slot_of {b : Bool} (i : Fin (nI b)) : i.val + c0 b < nS b := by have := i.2; have := nI_eq b; omega

/-- Product `i`: the slot times the right operand into the product buffer, and the copy to the result started. -/
def comp (d : Dev nD) (arg1 : Memref sig .tc .vmem S384x768 .f32) (b : Bool) (i : Fin (nI b)) (k : P F) : P F :=
  .op (.load (gat b) (slotR b (i.val + c0 b) (slot_of i)).toLoadRect (View.loadsAt_vmem h_S1x768x384)) fun x =>
  .op (.load arg1 (Rect.unit (s := S384x768) ![0, 0] S384x768.size inb_S384x768_S384x768_0_0).toLoadRect (View.loadsAt_vmem h_S384x768)) fun y =>
  .op (.load cb (cbR (qOf b i)).toLoadRect (View.loadsAt_vmem h_S1x768x768)) fun _ =>
  .op (.store cb (cbR (qOf b i)) (shapeCast S1x768x768 (matmul dot_S768x384_S384x768_S768x768_1_0_0_1_n_n none (shapeCast S768x384 (x : Vec F S1x768x384 .f32) shapeCasts_S1x768x384_S768x384) (shapeCast S384x768 (y : Vec F S384x768 .f32) shapeCasts_S384x768_S384x768) (constant S768x768 .f32 0x00000000#32)) shapeCasts_S768x768_S1x768x768)
    Finset.univ (View.stores_vmem_bits_univ h_S1x768x768 rfl) (.inl rfl)) fun _ =>
  .op (.enqueueDma (cbM (qOf b i)) (.here (outBlk d b i)) (.dma (outS (qOf b i))) (cbM_we _) (outBlk_we d b i) ⟨Or.inl rfl, trivial⟩) fun _ => k

/-- Product `i` once its product buffer is free: from the third of a direction on, the copy two before is waited for first. -/
def compW (d : Dev nD) (arg1 : Memref sig .tc .vmem S384x768 .f32) (b : Bool) (i : ℕ) (h : i < nI b) (k : P F) : P F :=
  if 2 ≤ i then waitOut d b ⟨i - 2, by omega⟩ (comp d arg1 b ⟨i, h⟩ k) else comp d arg1 b ⟨i, h⟩ k

/-- The device's own block into slot 0 of a gather buffer. -/
def initSlot (arg0 : Memref sig .tc .vmem S768x384 .f32) (b : Bool) (k : P F) : P F :=
  .op (.load arg0 (Rect.unit (s := S768x384) ![0, 0] S768x384.size inb_S768x384_S768x384_0_0).toLoadRect (View.loadsAt_vmem h_S768x384)) fun x =>
  .op (.load (gat b) (slotR b 0 (by cases b <;> decide)).toLoadRect (View.loadsAt_vmem h_S1x768x384)) fun _ =>
  .op (.store (gat b) (slotR b 0 (by cases b <;> decide)) (shapeCast S1x768x384 (shapeCast S768x384 (x : Vec F S768x384 .f32) shapeCasts_S768x384_S768x384) shapeCasts_S768x384_S1x768x384)
    Finset.univ (slot_stores b 0 _) (.inl rfl)) fun _ => k

theorem lt_R {j : ℕ} (hj : j < 15) : 2 * j + 3 < nH true := by show 2 * j + 3 < 32; omega
theorem lt_L {j : ℕ} (hj : j < 15) : 2 * j + 1 < nH false := by show 2 * j + 1 < 30; omega
theorem lt_L' {j : ℕ} (hj : j < 14) : 2 * j + 3 < nH false := by show 2 * j + 3 < 30; omega

/-- The left hop of a round, which the last round does not make. -/
def hopL (d : Dev nD) (s : ℕ) (k : P F) : P F := if h : s < nH false then hop d false s h k else k

/-- Round `j`: half blocks `2j` and `2j + 1` of the next slot arrive in both directions and are sent on, and both slots'
    products are made. -/
def round (d : Dev nD) (arg1 : Memref sig .tc .vmem S384x768 .f32) (j : ℕ) (hj : j < 15) (k : P F) : P F :=
  recv true (2 * j) (by have := lt_R hj; omega) <|
  hop d true (2 * j + 2) (by have := lt_R hj; omega) <|
  recv false (2 * j) (by have := lt_L hj; omega) <|
  hopL d (2 * j + 2) <|
  recv true (2 * j + 1) (by have := lt_R hj; omega) <|
  hop d true (2 * j + 3) (lt_R hj) <|
  recv false (2 * j + 1) (lt_L hj) <|
  hopL d (2 * j + 3) <|
  compW d arg1 true (j + 1) (by show j + 1 < 17; omega) <|
  compW d arg1 false j hj k

/-- Rounds `j`, `j + 1`, … up to the fifteenth. -/
def rounds (d : Dev nD) (arg1 : Memref sig .tc .vmem S384x768 .f32) : (n j : ℕ) → (h : j + n = 15) → P F → P F
  | 0, _, _, k => k
  | n + 1, j, h, k => round d arg1 j (by omega) (rounds d arg1 n (j + 1) (by omega) k)

/-- Every hop of a direction has left, from hop `s` on. -/
def sents (b : Bool) : (n s : ℕ) → (h : s + n = nH b) → P F → P F
  | 0, _, _, k => k
  | n + 1, s, h, k => sent b s (by omega) (sents b n (s + 1) (by omega) k)

/-- The kernel after it has read its number. -/
def bodyAt (d : Dev nD) (arg0 : Memref sig .tc .vmem S768x384 .f32) (arg1 : Memref sig .tc .vmem S384x768 .f32) : P F :=
  semSignalWord (peer false d) barS 1#32 >>= fun _ =>
  semSignalWord (peer true d) barS 1#32 >>= fun _ =>
  semWaitWord barS 2#32 >>= fun _ =>
  initSlot arg0 true <|
  initSlot arg0 false <|
  hop d true 0 (by decide) <|
  hop d false 0 (by decide) <|
  hop d true 1 (by decide) <|
  hop d false 1 (by decide) <|
  compW d arg1 true 0 (by decide) <|
  rounds d arg1 15 0 rfl <|
  recv true 30 (by decide) <|
  recv true 31 (by decide) <|
  compW d arg1 true 16 (by decide) <|
  sents true 32 0 rfl <|
  sents false 30 0 rfl <|
  waitOut d true ⟨16, by decide⟩ <|
  waitOut d false ⟨13, by decide⟩ <|
  waitOut d true ⟨15, by decide⟩ <|
  waitOut d false ⟨14, by decide⟩ <|
  pure ⟨⟩

set_option maxRecDepth 100000 in
set_option maxHeartbeats 0 in
/-- The printed body is the structured program. -/
theorem body_eq (arg0 : Memref sig .tc .vmem S768x384 .f32) (harg0 : arg0.IsWhole) (arg1 : Memref sig .tc .vmem S384x768 .f32) (harg1 : arg1.IsWhole)
    (h2 : (Memref.whole main_v1 : Memref sig .tc .hbm S24576x768 .f32).IsWhole) (h3 : (Memref.whole cc0_scratch0 : Memref sig .tc .vmem S17x768x384 .f32).IsWhole)
    (h4 : (Memref.whole cc0_scratch1 : Memref sig .tc .vmem S16x768x384 .f32).IsWhole) (h5 : (Memref.whole cc0_scratch2 : Memref sig .tc .vmem S4x768x768 .f32).IsWhole) :
    cc0_body (F := F) arg0 harg0 arg1 harg1 (Memref.whole main_v1) h2 (Memref.whole cc0_scratch0) h3 (Memref.whole cc0_scratch1) h4 (Memref.whole cc0_scratch2) h5
        cc0_scratch3 cc0_scratch4 cc0_scratch5 cc0_scratch6 cc0_scratch7
      = Prog.op .deviceId fun d => bodyAt d arg0 arg1 := rfl

end Cert.KernelIdeal.Hop

end
-- ==== Proof.Ring.lean ====
/- The ring of devices: neighbours, and whose block each slot of a gather buffer holds. -/
module

public import proofs.«01_k».proof.Proof.Struct

@[expose] public section

noncomputable section

namespace Cert.KernelIdeal.Hop

open Idealize.ShloMosaic Idealize.ShloMosaic.TcCoe Idealize.SL.Sem
open Cert.KernelIdeal.Gen

variable {F : FTy → Type} [FloatOps F]

/-! ## The ring -/

/-- The two neighbours are each other's inverse. -/
theorem peer_peer (b : Bool) (d : Dev nD) : peer b (peer (!b) d) = d := by
  revert d; cases b <;> decide +kernel
theorem peer_peer' (b : Bool) (d : Dev nD) : peer (!b) (peer b d) = d := by
  have := peer_peer (!b) d; rwa [Bool.not_not] at this
theorem peer_ne (d : Dev nD) : peer true d ≠ peer false d := by revert d; decide +kernel

/-- A direction's neighbour, as a permutation of the devices. -/
def ringE (b : Bool) : Dev nD ≃ Dev nD := ⟨peer b, peer (!b), peer_peer' b, peer_peer b⟩

/-- The device `c` hops upstream of `d`: whose block slot `c` of `d`'s gather buffer holds. -/
def org (b : Bool) : ℕ → Dev nD → Dev nD
  | 0, d => d
  | c + 1, d => org b c (peer (!b) d)

set_option maxRecDepth 100000 in
/-- Product `i` fills the rows of the device its slot's block came from. -/
theorem off_eq (b : Bool) (d : Dev nD) (i : Fin (nI b)) :
    k0_off1 d (k0_off1_at (offIx b i)) = ![768 * (org b (i.val + c0 b) d).val, 0] := by
  have h0 : ∀ b : Bool, ∀ d : Dev nD, ∀ i : Fin (nI b), k0_off1 d (k0_off1_at (offIx b i)) 0 = 768 * (org b (i.val + c0 b) d).val := by
    intro b; cases b <;> decide +kernel
  funext a
  refine Fin.cases (h0 b d i) (fun a => ?_) a
  refine Fin.cases ?_ (fun a => a.elim0) a
  rfl

set_option maxRecDepth 100000 in
/-- The products of one device fill each device's rows once. -/
theorem org_inj (d : Dev nD) : Function.Injective fun x : (Σ b : Bool, Fin (nI b)) => org x.1 (x.2.val + c0 x.1) d := by
  revert d
  have h : ∀ d : Dev nD, ∀ b b' : Bool, ∀ i : Fin (nI b), ∀ i' : Fin (nI b'),
      org b (i.val + c0 b) d = org b' (i'.val + c0 b') d → b = b' ∧ i.val = i'.val := by
    intro d b b'; revert d; cases b <;> cases b' <;> decide +kernel
  rintro d ⟨b, i⟩ ⟨b', i'⟩ e
  obtain ⟨rfl, hi⟩ := h d b b' i i' e
  obtain rfl := Fin.ext hi
  rfl

/-- Which product fills which device's rows. -/
def itemE (d : Dev nD) : (Σ b : Bool, Fin (nI b)) ≃ Dev nD :=
  Equiv.ofBijective _ ((Fintype.bijective_iff_injective_and_card _).2 ⟨org_inj d, by decide⟩)

end Cert.KernelIdeal.Hop

end
-- ==== Proof.Views.lean ====
/- What the buffers hold: the contents of every half block of the gather buffers, of the product
   buffers and of the result, and how a copy, a load and a store of the kernel meet them. -/
module

public import proofs.«01_k».proof.Proof.Ring
public import Idealize.ShloMosaic.Lib.Pipeline.Value

@[expose] public section

noncomputable section

namespace Cert.KernelIdeal.Hop

open Idealize.ShloMosaic Idealize.ShloMosaic.TcCoe Idealize.SL.Sem
open Cert.KernelIdeal.Gen

variable {F : FTy → Type} [FloatOps F]

/-! ## Contents -/

/-- An index of a one-slot block from its row and column. -/
def ix3 (j : Fin 768) (k : Fin 384) : S1x768x384.Idx := fun a => match a with | 0 => (0 : Fin 1) | 1 => j | 2 => k
/-- An index of a product from its row and column. -/
def ix2 (j : Fin 768) (k : Fin 768) : S768x768.Idx := fun a => match a with | 0 => j | 1 => k

section Contents

variable (A : Dev nD → Vec F S768x384 .f32) (B : Dev nD → Vec F S384x768 .f32)

/-- A device's block of the left operand, as the kernel stores it in a slot. -/
def A3 (e : Dev nD) : Vec F S1x768x384 .f32 :=
  shapeCast S1x768x384 (shapeCast S768x384 (A e) shapeCasts_S768x384_S768x384) shapeCasts_S768x384_S1x768x384
/-- The product of `e`'s block of the left operand with `d`'s right operand. -/
def C2 (e d : Dev nD) : Vec F S768x768 .f32 :=
  matmul dot_S768x384_S384x768_S768x768_1_0_0_1_n_n none (shapeCast S768x384 (A3 A e) shapeCasts_S1x768x384_S768x384)
    (shapeCast S384x768 (B d) shapeCasts_S384x768_S384x768) (constant S768x768 .f32 0x00000000#32)
/-- The same as the kernel stores it in a product buffer. -/
def C3 (e d : Dev nD) : Vec F S1x768x768 .f32 := shapeCast S1x768x768 (C2 A B e d) shapeCasts_S768x768_S1x768x768

/-- A gather buffer when every slot holds its block. -/
def GS (b : Bool) (d : Dev nD) : (SG b).Idx → Elt F .f32 := fun i => A3 A (org b (i 0).val d) (ix3 (i 1) (i 2))
def GV : (b : Bool) → (d : Dev nD) → (gat b).view.ty.Contents (Elt F)
  | true, d => GS A true d
  | false, d => GS A false d
theorem GV_emb (b : Bool) (d : Dev nD) (x : (SG b).Idx) : (gat b).view.read (Elt F) (GV A b d) x = GS A b d x := by
  cases b <;> rfl

/-- The device whose rows row `i` is among. -/
def rowDev (i : S24576x768.Idx) : Dev nD := ⟨(i 0).val / 768, by have : (i 0).val < 24576 := (i 0).isLt; show _ < 32; omega⟩
/-- The result of device `d` when every product has arrived. -/
def OV (d : Dev nD) : (outM : Memref sig .tc .hbm S24576x768 .f32).view.ty.Contents (Elt F) :=
  fun i : S24576x768.Idx => C2 A B (rowDev i) d (ix2 ⟨(i 0).val % 768, Nat.mod_lt _ (by decide)⟩ (i 1))

end Contents

/-! ## The parts of the buffers -/

/-- Half block `u`, in the buffer's own coordinates. -/
def hrect (b : Bool) (u : ℕ) : Finset (SG b).Idx := Finset.univ.filter fun i => (i 0).val = u / 2 ∧ (i 1).val / 384 = u % 2
def hset (b : Bool) (u : ℕ) : Finset (gat b).view.ty.Idx := (gat b).view.setOn (hrect b u)

theorem gat_univ (b : Bool) : (gat b).view.setOn Finset.univ = Finset.univ := by
  cases b
  · exact View.setOn_whole_univ cc0_scratch1
  · exact View.setOn_whole_univ cc0_scratch0

theorem half_set (b : Bool) (u : ℕ) (h : u < 2 * nS b) : (half b u h).view.set = hset b u := by
  unfold half hset
  rw [Memref.set_view_squeeze]
  show ((gat b).view.slice _).set = _
  rw [View.set_slice, View.setOn]
  congr 1
  ext i
  rw [Rect.mem_set_unit, hrect, Finset.mem_filter]
  have h1 : (i 1).val < 768 := (i 1).isLt
  have h2 : (i 2).val < 384 := (i 2).isLt
  constructor
  · intro hi
    have a0 := hi 0; have a1 := hi 1
    simp at a0 a1
    exact ⟨Finset.mem_univ _, by omega, by omega⟩
  · rintro ⟨-, a0, a1⟩ a
    fin_cases a <;> simp <;> omega

theorem hset_disj (b : Bool) {u v : ℕ} (h : u ≠ v) : Disjoint (hset b u) (hset b v) := by
  unfold hset View.setOn
  rw [Finset.disjoint_map, Finset.disjoint_left]
  intro i hi hj
  rw [hrect, Finset.mem_filter] at hi hj
  omega

theorem hset_cover (b : Bool) : (Finset.range (2 * nS b)).biUnion (hset b) = Finset.univ := by
  refine Finset.eq_univ_iff_forall.2 fun i => ?_
  have hi : i ∈ (gat b).view.setOn Finset.univ := by rw [gat_univ]; exact Finset.mem_univ _
  obtain ⟨x, -, rfl⟩ := Finset.mem_map.mp hi
  have h0 : (x 0).val < nS b := (x 0).isLt
  have h1 : (x 1).val < 768 := (x 1).isLt
  refine Finset.mem_biUnion.2 ⟨2 * (x 0).val + (x 1).val / 384, Finset.mem_range.2 (by omega), ?_⟩
  unfold hset
  rw [View.mem_setOn, hrect, Finset.mem_filter]
  exact ⟨Finset.mem_univ _, by omega, by omega⟩

theorem slot_set (b : Bool) (c : ℕ) (h : c < nS b) : (gat b).view.setOn (slotR b c h).set = hset b (2 * c) ∪ hset b (2 * c + 1) := by
  unfold hset View.setOn
  rw [← Finset.map_union]
  congr 1
  ext i
  rw [Rect.mem_set_unit, Finset.mem_union, hrect, hrect, Finset.mem_filter, Finset.mem_filter]
  have h1 : (i 1).val < 768 := (i 1).isLt
  have h2 : (i 2).val < 384 := (i 2).isLt
  constructor
  · intro hi
    have a0 := hi 0
    simp at a0
    have : (i 1).val / 384 = 0 ∨ (i 1).val / 384 = 1 := by omega
    exact this.imp (fun e => ⟨Finset.mem_univ _, by omega, by omega⟩) (fun e => ⟨Finset.mem_univ _, by omega, by omega⟩)
  · rintro hi a
    have a0 : (i 0).val = c := by rcases hi with hi | hi <;> omega
    fin_cases a <;> simp <;> omega

section Values

variable (A : Dev nD → Vec F S768x384 .f32) (B : Dev nD → Vec F S384x768 .f32)

theorem slot_read (b : Bool) (d : Dev nD) (c : ℕ) (h : c < nS b) :
    (gat b).view.readAt (Elt F) (slotR b c h).toLoadRect (GV A b d) = A3 A (org b c d) := by
  funext x
  rw [View.readAt_apply, GV_emb]
  unfold GS
  have hx : (x 0).val = 0 := Nat.lt_one_iff.1 (x 0).isLt
  have e0 : ((slotR b c h).toLoadRect.idx x 0).val = c := by
    simp only [LoadRect.idx_apply, Rect.off_unit, Rect.stride_unit]; simp [hx]
  rw [e0]
  congr 1
  funext a
  apply Fin.ext
  match a with
  | 0 => exact hx.symm
  | 1 => show 0 + 1 * (x 1).val = _; omega
  | 2 => show 0 + 1 * (x 2).val = _; omega

/-- What the device stores in slot 0 is the slot's contents. -/
theorem init_write (b : Bool) (d : Dev nD) (h : 0 < nS b) (f : (gat b).view.ty.Contents (Elt F)) :
    ∀ i ∈ (gat b).view.setOn (slotR b 0 h).set, ((gat b).access (slotR b 0 h)).write (Elt F) f (A3 A d) Finset.univ i = GV A b d i := by
  intro i hi
  obtain ⟨y, hy, rfl⟩ := Finset.mem_map.mp hi
  rw [← Rect.map_emb_univ] at hy
  obtain ⟨x, -, rfl⟩ := Finset.mem_map.mp hy
  refine (View.write_emb_of_mem (v := (gat b).access (slotR b 0 h)) f _ (Finset.mem_univ x)).trans ?_
  have key : A3 A d x = ((gat b).access (slotR b 0 h)).read (Elt F) (GV A b d) x := (congrFun (slot_read A b d 0 h) x).symm
  rw [key, View.read_apply, cast_cast, cast_eq]
  rfl

theorem half_read (b : Bool) (u : ℕ) (h : u < 2 * nS b) (f : (gat b).view.ty.Contents (Elt F)) (x : S384x384.Idx) :
    (half b u h).view.read (Elt F) f x = (gat b).view.read (Elt F) f
      ((Rect.unit (s := SG b) ![u / 2, u % 2 * 384, 0] S1x384x384.size (half_inb h)).emb (Shape.reshapeEquiv squeezes_S1x384x384_S384x384.numel_eq x)) := rfl

theorem half_GS (b : Bool) (d : Dev nD) (u : ℕ) (h : u < 2 * nS b) (y : S1x384x384.Idx) (j : Fin 768) (k : Fin 384)
    (hj : j.val = u % 2 * 384 + (y 1).val) (hk : k.val = (y 2).val) :
    GS A b d ((Rect.unit (s := SG b) ![u / 2, u % 2 * 384, 0] S1x384x384.size (half_inb h)).emb y) = A3 A (org b (u / 2) d) (ix3 j k) := by
  unfold GS
  have hz : (y 0).val = 0 := Nat.lt_one_iff.1 (y 0).isLt
  have e0 : ((Rect.unit (s := SG b) ![u / 2, u % 2 * 384, 0] S1x384x384.size (half_inb h)).emb y 0).val = u / 2 := by
    rw [Rect.emb_apply, hz]; simp
  rw [e0]
  congr 1
  funext a
  apply Fin.ext
  match a with
  | 0 => rfl
  | 1 => show u % 2 * 384 + 1 * (y 1).val = j.val; omega
  | 2 => show 0 + 1 * (y 2).val = k.val; omega

/-- What a hop lands is the next slot's contents. -/
theorem half_write (b : Bool) (d : Dev nD) (s : ℕ) (h : s < nH b) (fd : (gat b).view.ty.Contents (Elt F)) :
    ∀ i ∈ hset b (s + 2), (half b (s + 2) (dst_lt h)).view.write (Elt F) fd ((half b s (src_lt h)).view.read (Elt F) (GV A b (peer (!b) d))) Finset.univ i
      = GV A b d i := by
  intro i hi
  rw [← half_set b (s + 2) (dst_lt h)] at hi
  obtain ⟨x, hx, rfl⟩ := Finset.mem_map.mp hi
  refine (View.write_emb_of_mem (v := (half b (s + 2) (dst_lt h)).view) fd _ hx).trans ?_
  have key : (half b s (src_lt h)).view.read (Elt F) (GV A b (peer (!b) d)) x = (half b (s + 2) (dst_lt h)).view.read (Elt F) (GV A b d) x := by
    rw [half_read, half_read, GV_emb, GV_emb]
    generalize hy : Shape.reshapeEquiv squeezes_S1x384x384_S384x384.numel_eq x = y
    have h1 : (y 1).val < 384 := (y 1).isLt
    rw [half_GS A b _ s (src_lt h) y ⟨s % 2 * 384 + (y 1).val, by omega⟩ ⟨(y 2).val, (y 2).isLt⟩ rfl rfl,
      half_GS A b _ (s + 2) (dst_lt h) y ⟨s % 2 * 384 + (y 1).val, by omega⟩ ⟨(y 2).val, (y 2).isLt⟩ (by simp) rfl,
      show (s + 2) / 2 = s / 2 + 1 by omega]
    rfl
  refine (congrArg (_root_.cast _) key).trans ?_
  refine (congrArg (_root_.cast _) (View.read_apply (v := (half b (s + 2) (dst_lt h)).view) (GV A b d) x)).trans ?_
  exact (cast_cast ..).trans (cast_eq ..)

/-! ## The product buffers and the result -/

/-- Product buffer `q`'s elements. -/
def cset (q : Fin 4) : Finset (cb : Memref sig .tc .vmem S4x768x768 .f32).view.ty.Idx := (Finset.univ : Finset S4x768x768.Idx).filter fun i => (i 0).val = q.val
/-- The result rows of device `e`. -/
def oset (e : Dev nD) : Finset (outM : Memref sig .tc .hbm S24576x768 .f32).view.ty.Idx := (Finset.univ : Finset S24576x768.Idx).filter fun i => (i 0).val / 768 = e.val

theorem cbR_set (q : Fin 4) : (cbR q).set = cset q := by
  ext i
  rw [Rect.mem_set_unit, cset, Finset.mem_filter]
  have h1 : (i 1).val < 768 := (i 1).isLt
  have h2 : (i 2).val < 768 := (i 2).isLt
  constructor
  · intro hi
    have a0 := hi 0
    simp at a0
    exact ⟨Finset.mem_univ _, by omega⟩
  · rintro ⟨-, a0⟩ a
    fin_cases a <;> simp <;> omega
theorem cb_access_set (q : Fin 4) : (cb.view.setOn (cbR q).set) = cset q := by
  rw [cbR_set]; exact Finset.map_refl
theorem cbM_set (q : Fin 4) : (cbM q).view.set = cset q := by
  rw [Memref.set_view_squeeze]
  show ((View.whole cc0_scratch2).slice (cbR q)).set = _
  rw [View.set_slice_whole, cbR_set]

theorem outBlk_set (d : Dev nD) (b : Bool) (i : Fin (nI b)) : (outBlk d b i).view.set = oset (org b (i.val + c0 b) d) := by
  show ((View.whole main_v1).slice _).set = _
  rw [View.set_slice_whole]
  ext x
  rw [Rect.mem_set_unit, oset, Finset.mem_filter, off_eq]
  have h1 : (x 1).val < 768 := (x 1).isLt
  constructor
  · intro hi
    have a0 := hi 0
    simp at a0
    exact ⟨Finset.mem_univ _, by omega⟩
  · rintro ⟨-, a0⟩ a
    fin_cases a <;> simp <;> omega

theorem cset_disj {q r : Fin 4} (h : q ≠ r) : Disjoint (cset q) (cset r) := by
  rw [Finset.disjoint_left]
  intro i hi hj
  rw [cset, Finset.mem_filter] at hi hj
  exact h (Fin.ext (hi.2.symm.trans hj.2))
theorem cset_cover : Finset.univ.biUnion cset = Finset.univ := by
  refine Finset.eq_univ_iff_forall.2 fun i => Finset.mem_biUnion.2 ⟨(show S4x768x768.Idx from i) 0, Finset.mem_univ _, ?_⟩
  exact Finset.mem_filter.2 ⟨Finset.mem_univ _, rfl⟩
theorem oset_disj {e e' : Dev nD} (h : e ≠ e') : Disjoint (oset e) (oset e') := by
  rw [Finset.disjoint_left]
  intro i hi hj
  rw [oset, Finset.mem_filter] at hi hj
  exact h (Fin.ext (hi.2.symm.trans hj.2))
theorem oset_cover : Finset.univ.biUnion oset = Finset.univ := by
  refine Finset.eq_univ_iff_forall.2 fun i => Finset.mem_biUnion.2 ⟨rowDev i, Finset.mem_univ _, ?_⟩
  rw [oset, Finset.mem_filter]; exact ⟨Finset.mem_univ _, rfl⟩

/-- A squeezed slice reads what was just stored at its rectangle. -/
theorem squeezed_store {κ : Kind} {cs : Space} {s s' : Shape} {e : EltTy} (M : Memref sig κ cs s e) (r : Rect s) (hr : ∀ a, r.stride a = 1)
    (hq : r.shape.Squeezes s') (hc : r.shape.ShapeCasts s') (f : M.view.ty.Contents (Elt F)) (w : Vec F r.shape e) :
    ((M.slice r hr).squeeze s' hq).view.read (Elt F) ((M.access r).write (Elt F) f w Finset.univ) = shapeCast s' w hc :=
  (Memref.read_squeeze_slice M r hr hq hc _).trans (congrArg (fun v => shapeCast s' v hc) (View.read_write_univ (v := M.access r) f w))

/-- What a copy of a stored product lands is the result's contents there. -/
theorem out_write (d : Dev nD) (b : Bool) (i : Fin (nI b)) (fc : (cb : Memref sig .tc .vmem S4x768x768 .f32).view.ty.Contents (Elt F))
    (fd : (outM : Memref sig .tc .hbm S24576x768 .f32).view.ty.Contents (Elt F)) :
    ∀ x ∈ (outBlk d b i).view.set, (outBlk d b i).view.write (Elt F) fd ((cbM (qOf b i)).view.read (Elt F)
        (((cb : Memref sig .tc .vmem S4x768x768 .f32).access (cbR (qOf b i))).write (Elt F) fc (C3 A B (org b (i.val + c0 b) d) d) Finset.univ)) Finset.univ x
      = OV A B d x := by
  intro x hx
  obtain ⟨y, -, rfl⟩ := Finset.mem_map.mp hx
  refine (View.write_emb_of_mem (v := (outBlk d b i).view) fd _ (Finset.mem_univ y)).trans ?_
  have e1 : (cbM (qOf b i)).view.read (Elt F)
        (((cb : Memref sig .tc .vmem S4x768x768 .f32).access (cbR (qOf b i))).write (Elt F) fc (C3 A B (org b (i.val + c0 b) d) d) Finset.univ)
      = shapeCast S768x768 (C3 A B (org b (i.val + c0 b) d) d) shapeCasts_S1x768x768_S768x768 := squeezed_store ..
  rw [e1]
  have e2 : shapeCast S768x768 (C3 A B (org b (i.val + c0 b) d) d) shapeCasts_S1x768x768_S768x768 = C2 A B (org b (i.val + c0 b) d) d :=
    shapeCast_shapeCast ..
  rw [e2]
  have o0 : ((outBlk d b i).view.emb y 0 : ℕ) = 768 * (org b (i.val + c0 b) d).val + (y 0).val := by
    show k0_off1 d (k0_off1_at (offIx b i)) 0 + 1 * (y 0).val = _
    rw [off_eq]; simp
  have o1 : ((outBlk d b i).view.emb y 1 : ℕ) = (y 1).val := by
    show k0_off1 d (k0_off1_at (offIx b i)) 1 + 1 * (y 1).val = _
    rw [off_eq]; simp
  have hy : (y 0).val < 768 := (y 0).isLt
  show C2 A B (org b (i.val + c0 b) d) d y = C2 A B (rowDev ((outBlk d b i).view.emb y)) d _
  have er : rowDev ((outBlk d b i).view.emb y) = org b (i.val + c0 b) d := by
    apply Fin.ext; show ((outBlk d b i).view.emb y 0 : ℕ) / 768 = _; rw [o0]; omega
  rw [er]
  congr 1
  funext a
  apply Fin.ext
  match a with
  | 0 => show _ = ((outBlk d b i).view.emb y 0 : ℕ) % 768; rw [o0]; omega
  | 1 => exact o1.symm

end Values

end Cert.KernelIdeal.Hop

end
-- ==== Proof.Proto.lean ====
/- The protocol: which cell is credited by what and hands over which part of a buffer, what a device owes, and the state a
   device holds after so many hops, receipts and products. -/
module

public import proofs.«01_k».proof.Proof.Views
public import Idealize.ShloMosaic.Lib.Pipeline.Launch
public import Idealize.ShloMosaic.Lib.Pipeline.Kit
public import Idealize.ShloMosaic.Lib.Tactic

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The numbers of the semaphores a direction's hops complete on. -/
def sN (b : Bool) (s : ℕ) : ℕ := if b then 2 + s else 66 + s
def rN (b : Bool) (s : ℕ) : ℕ := if b then 34 + s else 96 + s

/-- The semaphore of a number. -/
def dmaN (n : ℕ) : DmaSem sig := ⟨n % 130, Nat.mod_lt _ (by decide)⟩

theorem sendS_eq {b : Bool} {s : ℕ} (h : s < nH b) : sendS b s h = dmaN (sN b s) :=
  Fin.ext (Nat.mod_eq_of_lt (send_lt h)).symm
theorem recvS_eq {b : Bool} {s : ℕ} (h : s < nH b) : recvS b s h = dmaN (rN b s) :=
  Fin.ext (Nat.mod_eq_of_lt (recv_lt h)).symm
theorem outS_eq (q : Fin 4) : outS q = dmaN (126 + q.val) :=
  Fin.ext (Nat.mod_eq_of_lt (show 126 + q.val < 130 by omega)).symm

abbrev bcell (d : Dev nD) : GSem nD τ sig := ((d : Thread nD τ), .reg barS)
abbrev dcell (d : Dev nD) (n : ℕ) : GSem nD τ sig := ((d : Thread nD τ), .dma (dmaN n))

theorem dcell_inj {d d' : Dev nD} {n n' : ℕ} (h : n < 130) (h' : n' < 130) (e : dcell d n = dcell d' n') : d = d' ∧ n = n' := by
  refine ⟨congrArg (fun g : GSem nD τ sig => g.1.1) e, ?_⟩
  have : dmaN n = dmaN n' := SemLoc.dma.inj (congrArg Prod.snd e)
  have h2 : n % 130 = n' % 130 := congrArg Fin.val this
  rwa [Nat.mod_eq_of_lt h, Nat.mod_eq_of_lt h'] at h2

/-- What a semaphore is for. -/
inductive Use where
  | bar | send (b : Bool) (s : ℕ) | recv (b : Bool) (s : ℕ) | out (q : Fin 4) | other

/-- What the semaphore of a number is for. -/
def useN (n : ℕ) : Use :=
  if n < 2 then .other else if n < 34 then .send true (n - 2) else if n < 66 then .recv true (n - 34)
  else if n < 96 then .send false (n - 66) else if n < 126 then .recv false (n - 96)
  else if h : n - 126 < 4 then .out ⟨n - 126, h⟩ else .other
def use : SemLoc sig → Use
  | .reg x => if x = barS then .bar else .other
  | .dma x => useN x.val

theorem use_bar : use (.reg barS) = .bar := by unfold use; exact if_pos rfl
theorem use_send {b : Bool} {s : ℕ} (h : s < nH b) : use (.dma (dmaN (sN b s))) = .send b s := by
  rw [← sendS_eq h]; show useN (if b then 2 + s else 66 + s) = _
  cases b <;> simp only [nH, Bool.false_eq_true, if_true, if_false] at h ⊢ <;> unfold useN
  · rw [if_neg (by omega), if_neg (by omega), if_neg (by omega), if_pos (by omega)]; congr 1; omega
  · rw [if_neg (by omega), if_pos (by omega)]; congr 1; omega
theorem use_recv {b : Bool} {s : ℕ} (h : s < nH b) : use (.dma (dmaN (rN b s))) = .recv b s := by
  rw [← recvS_eq h]; show useN (if b then 34 + s else 96 + s) = _
  cases b <;> simp only [nH, Bool.false_eq_true, if_true, if_false] at h ⊢ <;> unfold useN
  · rw [if_neg (by omega), if_neg (by omega), if_neg (by omega), if_neg (by omega), if_pos (by omega)]; congr 1; omega
  · rw [if_neg (by omega), if_neg (by omega), if_pos (by omega)]; congr 1; omega
theorem use_out (q : Fin 4) : use (.dma (dmaN (126 + q.val))) = .out q := by
  rw [← outS_eq q]; show useN (126 + q.val) = _
  unfold useN
  rw [if_neg (by omega), if_neg (by omega), if_neg (by omega), if_neg (by omega), if_neg (by omega), dif_pos (by omega)]
  congr 1; apply Fin.ext; show 126 + q.val - 126 = _; omega

/-! ## Parts of the buffers held -/

/-- Half block `u` of a gather buffer of device `d`. -/
def hPts (b : Bool) (d : Dev nD) (u : ℕ) (q : PosShare TreeShare) (f : Buf (Elt F) ((gat b).view.loc (d : Thread nD τ))) : sProp 𝕄 :=
  (gat b).view.loc (d : Thread nD τ) ↦[hset b u]{q} f
/-- Product buffer `q` of device `d`. -/
def cPts (d : Dev nD) (q : Fin 4) (f : Buf (Elt F) ((cb : Memref sig .tc .vmem S4x768x768 .f32).view.loc (d : Thread nD τ))) : sProp 𝕄 :=
  (cb : Memref sig .tc .vmem S4x768x768 .f32).view.loc (d : Thread nD τ) ↦[cset q]{fullShare} f
/-- The rows of device `e` in the result of device `d`. -/
def oPts (d e : Dev nD) (f : Buf (Elt F) ((outM : Memref sig .tc .hbm S24576x768 .f32).view.loc (d : Thread nD τ))) : sProp 𝕄 :=
  (outM : Memref sig .tc .hbm S24576x768 .f32).view.loc (d : Thread nD τ) ↦[oset e]{fullShare} f

instance hPts_storable (b : Bool) (d : Dev nD) (u : ℕ) (q : PosShare TreeShare) (f) : BI.Storable (upEmb : UEmb _ 𝕄) (hPts (F := F) b d u q f) := by
  unfold hPts; infer_instance
instance cPts_storable (d : Dev nD) (q : Fin 4) (f) : BI.Storable (upEmb : UEmb _ 𝕄) (cPts (F := F) d q f) := by unfold cPts; infer_instance
instance oPts_storable (d e : Dev nD) (f) : BI.Storable (upEmb : UEmb _ 𝕄) (oPts (F := F) d e f) := by unfold oPts; infer_instance

/-! ## The schedule -/

/-- What a hop credits, and what a product's copy credits. -/
def NH (b : Bool) : ℕ := (half b 0 (by cases b <;> decide)).view.dmaCredit
def NO : ℕ := (outBlk ⟨0, by decide⟩ true ⟨0, by decide⟩).view.dmaCredit
theorem NH_pos (b : Bool) : 0 < NH b := View.dmaCredit_pos _ (by decide)
theorem NO_pos : 0 < NO := View.dmaCredit_pos _ (by decide)
theorem half_credit (b : Bool) (u : ℕ) (h : u < 2 * nS b) : (half b u h).view.dmaCredit = NH b := rfl
theorem out_credit (d : Dev nD) (b : Bool) (i : Fin (nI b)) : (outBlk d b i).view.dmaCredit = NO := rfl

/-- The direction a product buffer serves, how many products pass through it, and the slot its `r`-th one reads. -/
def qb (q : Fin 4) : Bool := q.val % 2 = 0
def nR (q : Fin 4) : ℕ := if q.val = 0 then 9 else if q.val = 1 then 7 else 8
def sl (q : Fin 4) (r : ℕ) : ℕ := if qb q then 2 * r + q.val / 2 else 2 * r + 2 - q.val / 2

theorem qb_qOf (b : Bool) (i : ℕ) : qb (qOf b i) = b := by
  cases b
  · show decide ((2 * ((i + 1) % 2) + 1) % 2 = 0) = false
    rw [decide_eq_false_iff_not]; omega
  · show decide ((2 * ((i + 0) % 2) + 0) % 2 = 0) = true
    rw [decide_eq_true_iff]; omega
theorem sl_qOf (b : Bool) (i : ℕ) : sl (qOf b i) (i / 2) = i + c0 b := by
  unfold sl; rw [qb_qOf]
  cases b
  · rw [if_neg Bool.false_ne_true]; show 2 * (i / 2) + 2 - (2 * ((i + 1) % 2) + 1) / 2 = i + 1; omega
  · rw [if_pos rfl]; show 2 * (i / 2) + (2 * ((i + 0) % 2) + 0) / 2 = i + 0; omega
theorem lt_nR {b : Bool} {i : ℕ} (h : i < nI b) : i / 2 < nR (qOf b i) := by
  cases b
  · have hi : i < 15 := h
    show i / 2 < if 2 * ((i + 1) % 2) + 1 = 0 then 9 else if 2 * ((i + 1) % 2) + 1 = 1 then 7 else 8
    split_ifs <;> omega
  · have hi : i < 17 := h
    show i / 2 < if 2 * ((i + 0) % 2) + 0 = 0 then 9 else if 2 * ((i + 0) % 2) + 0 = 1 then 7 else 8
    split_ifs <;> omega
theorem nR_le {b : Bool} {i : ℕ} (h : nI b ≤ i) (h' : i < nI b + 2) : nR (qOf b i) ≤ i / 2 := by
  obtain rfl | rfl : i = nI b ∨ i = nI b + 1 := by omega
  · revert b; decide
  · revert b; decide
theorem qOf_two (b : Bool) (i : ℕ) : qOf b (i + 2) = qOf b i := by
  apply Fin.ext; show 2 * ((i + 2 + c0 b) % 2) + c0 b = 2 * ((i + c0 b) % 2) + c0 b; omega

section Sched

variable (A : Dev nD → Vec F S768x384 .f32) (B : Dev nD → Vec F S384x768 .f32)

/-- What a neighbour's entry signal hands over: the half blocks the hops to it land in. -/
def barPay (d : Dev nD) (b : Bool) : sProp 𝕄 :=
  bigSep (Finset.range (nH b)) fun s => iprop(∃ f, hPts (F := F) b (peer b d) (s + 2) fullShare f)
/-- What a product's finished copy hands over: the result rows and the product buffer. -/
def outPay (d : Dev nD) (q : Fin 4) (e : Dev nD) : sProp 𝕄 :=
  iprop(oPts d e (OV A B d) ∗ ∃ f, cPts d q f)

/-- What a cell's round hands over, by the cell's use. -/
def pay (d : Dev nD) (r : ℕ) (t : Bool) : Use → sProp 𝕄
  | .bar => barPay d t
  | .send b s => hPts b d s fullShare.left (GV A b d)
  | .recv b s => hPts b d (s + 2) fullShare (GV A b d)
  | .out q => outPay A B d q (org (qb q) (sl q r) d)
  | .other => iprop(emp)

/-- Who pays a cell's round, by the cell's use. -/
def dutiesU (r : ℕ) : Use → Finset Bool
  | .bar => if r = 0 then Finset.univ else ∅
  | .send _ _ => if r = 0 then {false} else ∅
  | .recv _ _ => if r = 0 then {false} else ∅
  | .out q => if r < nR q then {false} else ∅
  | .other => ∅
/-- How much, by the cell's use. -/
def amtU : Use → ℕ
  | .bar => 1
  | .send b _ => NH b
  | .recv b _ => NH b
  | .out _ => NO
  | .other => 1

theorem amtU_pos (u : Use) : 0 < amtU u := by
  cases u
  · exact Nat.one_pos
  · exact NH_pos _
  · exact NH_pos _
  · exact NO_pos
  · exact Nat.one_pos

def Rd : Rounds.Schedule (GSem nD τ sig) Bool 𝕄 where
  duties g r := if g.1.2 = .tc then dutiesU r (use g.2) else ∅
  unitless _ := False
  amount g _ _ := amtU (use g.2)
  payload g r t := pay A B g.1.1 r t (use g.2)
  amount_pos g _ _ _ := amtU_pos _

instance Rd_storable (g : GSem nD τ sig) (r : ℕ) (t : Bool) : BI.Storable (upEmb : UEmb _ 𝕄) ((Rd A B).payload g r t) := by
  show BI.Storable upEmb (pay A B g.1.1 r t (use g.2))
  cases use g.2 <;> unfold pay <;> (try unfold barPay) <;> (try unfold outPay) <;> infer_instance

variable (d : Dev nD)

theorem Rd_duties (sm : SemLoc sig) (r : ℕ) : (Rd A B).duties ((d : Thread nD τ), sm) r = dutiesU r (use sm) := by
  unfold Rd; dsimp only; rw [if_pos rfl]
theorem Rd_amount (sm : SemLoc sig) (r : ℕ) (t : Bool) : (Rd A B).amount ((d : Thread nD τ), sm) r t = amtU (use sm) := rfl
theorem Rd_payload (sm : SemLoc sig) (r : ℕ) (t : Bool) : (Rd A B).payload ((d : Thread nD τ), sm) r t = pay A B d r t (use sm) := rfl

theorem duties_bar : (Rd A B).duties (bcell d) 0 = Finset.univ := by
  rw [Rd_duties, use_bar]; rfl
theorem duties_bar' (r : ℕ) (h : 1 ≤ r) : (Rd A B).duties (bcell d) r = ∅ := by
  rw [Rd_duties, use_bar]; exact if_neg (by omega)
theorem duties_send {b : Bool} {s : ℕ} (h : s < nH b) : (Rd A B).duties (dcell d (sN b s)) 0 = {false} := by
  rw [Rd_duties, use_send h]; rfl
theorem duties_send' {b : Bool} {s : ℕ} (h : s < nH b) (r : ℕ) (hr : 1 ≤ r) : (Rd A B).duties (dcell d (sN b s)) r = ∅ := by
  rw [Rd_duties, use_send h]; exact if_neg (by omega)
theorem duties_recv {b : Bool} {s : ℕ} (h : s < nH b) : (Rd A B).duties (dcell d (rN b s)) 0 = {false} := by
  rw [Rd_duties, use_recv h]; rfl
theorem duties_recv' {b : Bool} {s : ℕ} (h : s < nH b) (r : ℕ) (hr : 1 ≤ r) : (Rd A B).duties (dcell d (rN b s)) r = ∅ := by
  rw [Rd_duties, use_recv h]; exact if_neg (by omega)
theorem duties_out (q : Fin 4) (r : ℕ) (hr : r < nR q) : (Rd A B).duties (dcell d (126 + q.val)) r = {false} := by
  rw [Rd_duties, use_out q]; exact if_pos hr
theorem duties_out' (q : Fin 4) (r : ℕ) (hr : nR q ≤ r) : (Rd A B).duties (dcell d (126 + q.val)) r = ∅ := by
  rw [Rd_duties, use_out q]; exact if_neg (by omega)

theorem amount_bar (r : ℕ) (t : Bool) : (Rd A B).amount (bcell d) r t = 1 := by rw [Rd_amount, use_bar]; rfl
theorem amount_send {b : Bool} {s : ℕ} (h : s < nH b) (r : ℕ) (t : Bool) : (Rd A B).amount (dcell d (sN b s)) r t = NH b := by
  rw [Rd_amount, use_send h]; rfl
theorem amount_recv {b : Bool} {s : ℕ} (h : s < nH b) (r : ℕ) (t : Bool) : (Rd A B).amount (dcell d (rN b s)) r t = NH b := by
  rw [Rd_amount, use_recv h]; rfl
theorem amount_out (q : Fin 4) (r : ℕ) (t : Bool) : (Rd A B).amount (dcell d (126 + q.val)) r t = NO := by
  rw [Rd_amount, use_out]; rfl

theorem expect_bar : (Rd A B).expect (bcell d) 0 = 2 := by
  unfold Schedule.expect Schedule.amountOf
  rw [duties_bar, Finset.sum_congr rfl fun t _ => amount_bar A B d 0 t]; rfl
theorem expect_send {b : Bool} {s : ℕ} (h : s < nH b) : (Rd A B).expect (dcell d (sN b s)) 0 = NH b := by
  unfold Schedule.expect Schedule.amountOf; rw [duties_send A B d h, Finset.sum_singleton, amount_send A B d h]
theorem expect_recv {b : Bool} {s : ℕ} (h : s < nH b) : (Rd A B).expect (dcell d (rN b s)) 0 = NH b := by
  unfold Schedule.expect Schedule.amountOf; rw [duties_recv A B d h, Finset.sum_singleton, amount_recv A B d h]
theorem expect_out (q : Fin 4) (r : ℕ) (hr : r < nR q) : (Rd A B).expect (dcell d (126 + q.val)) r = NO := by
  unfold Schedule.expect Schedule.amountOf; rw [duties_out A B d q r hr, Finset.sum_singleton, amount_out A B d]

theorem payload_bar (r : ℕ) (t : Bool) : (Rd A B).payload (bcell d) r t = barPay d t := by
  rw [Rd_payload, use_bar]; rfl
theorem payload_send {b : Bool} {s : ℕ} (h : s < nH b) (r : ℕ) (t : Bool) :
    (Rd A B).payload (dcell d (sN b s)) r t = hPts b d s fullShare.left (GV A b d) := by
  rw [Rd_payload, use_send h]; rfl
theorem payload_recv {b : Bool} {s : ℕ} (h : s < nH b) (r : ℕ) (t : Bool) :
    (Rd A B).payload (dcell d (rN b s)) r t = hPts b d (s + 2) fullShare (GV A b d) := by
  rw [Rd_payload, use_recv h]; rfl
theorem payload_out (q : Fin 4) (r : ℕ) (t : Bool) :
    (Rd A B).payload (dcell d (126 + q.val)) r t = outPay A B d q (org (qb q) (sl q r) d) := by
  rw [Rd_payload, use_out]; rfl

theorem rest_bar : bigSep ((Rd A B).duties (bcell d) 0 \ ∅) (fun t => (Rd A B).payload (bcell d) 0 t)
    = iprop(barPay d true ∗ barPay d false) := by
  rw [Finset.sdiff_empty, duties_bar, bigSep_univ_eq_bigSepL [true, false] (by decide) (by decide), bigSepL_cons_cons, bigSepL_singleton,
    payload_bar, payload_bar]
  rfl
theorem rest_send {b : Bool} {s : ℕ} (h : s < nH b) : bigSep ((Rd A B).duties (dcell d (sN b s)) 0 \ ∅) (fun t => (Rd A B).payload (dcell d (sN b s)) 0 t)
    = hPts b d s fullShare.left (GV A b d) := by
  rw [Finset.sdiff_empty, duties_send A B d h, bigSep_singleton, payload_send A B d h]
theorem rest_recv {b : Bool} {s : ℕ} (h : s < nH b) : bigSep ((Rd A B).duties (dcell d (rN b s)) 0 \ ∅) (fun t => (Rd A B).payload (dcell d (rN b s)) 0 t)
    = hPts b d (s + 2) fullShare (GV A b d) := by
  rw [Finset.sdiff_empty, duties_recv A B d h, bigSep_singleton, payload_recv A B d h]
theorem rest_out (q : Fin 4) (r : ℕ) (hr : r < nR q) : bigSep ((Rd A B).duties (dcell d (126 + q.val)) r \ ∅) (fun t => (Rd A B).payload (dcell d (126 + q.val)) r t)
    = outPay A B d q (org (qb q) (sl q r) d) := by
  rw [Finset.sdiff_empty, duties_out A B d q r hr, bigSep_singleton, payload_out A B d]

end Sched

/-! ## What a device owes, and the levels of the cells -/

/-- The hops of a direction from `h` on: each owes the neighbour's receiving cell its credit. -/
def OH (b : Bool) (h : ℕ) (d : Dev nD) : CellTallies nD τ sig Unit := ∑ s ∈ Finset.Ico h (nH b), tallyAt (dcell (peer b d) (rN b s)) () (NH b)
/-- The hops of both directions, `h` of the right and `h'` of the left made. -/
def OT (h h' : ℕ) (d : Dev nD) : CellTallies nD τ sig Unit := OH true h d + OH false h' d
/-- At the start also the two entry signals, the second of them then the first. -/
def O₁ (d : Dev nD) : CellTallies nD τ sig Unit := OT 0 0 d + tallyAt (bcell (peer true d)) () 1
def O₀ (d : Dev nD) : CellTallies nD τ sig Unit := O₁ d + tallyAt (bcell (peer false d)) () 1

theorem OH_succ (b : Bool) (h : ℕ) (d : Dev nD) (hh : h < nH b) :
    OH b h d = OH b (h + 1) d + tallyAt (dcell (peer b d) (rN b h)) () (NH b) := by
  unfold OH;
  rw [show Finset.Ico h (nH b) = insert h (Finset.Ico (h + 1) (nH b)) from Finset.ext fun x => by
      rw [Finset.mem_insert, Finset.mem_Ico, Finset.mem_Ico]; omega,
    Finset.sum_insert (fun hm => by have := (Finset.mem_Ico.mp hm).1; omega), add_comm]
theorem OH_end (b : Bool) (d : Dev nD) : OH b (nH b) d = 0 := by unfold OH; rw [Finset.Ico_self, Finset.sum_empty]

def L (g : GSem nD τ sig) : Finset Unit := if g.1.2 = .tc then {()} else ∅
def lvU : Use → ℕ
  | .bar => 1
  | .recv _ s => 2 + s
  | _ => 0
def lv (g : GSem nD τ sig) (_ : Unit) : ℕ := lvU (use g.2)

theorem L_of_ne (g : GSem nD τ sig) (h : g.1.2 ≠ .tc) : L g = ∅ := if_neg h
theorem L_tc (c : Dev nD) (sm : SemLoc sig) : L ((c : Thread nD τ), sm) = {()} := if_pos rfl

theorem OH_apply (b : Bool) (h : ℕ) (d : Dev nD) (g : GSem nD τ sig) (u : Unit) :
    OH b h d g u = ∑ s ∈ Finset.Ico h (nH b), (if g = dcell (peer b d) (rN b s) then NH b else 0) := by
  unfold OH
  rw [Finset.sum_apply, Finsupp.finset_sum_apply]
  refine Finset.sum_congr rfl fun s _ => ?_
  rw [tallyAt_apply]; cases u; simp
theorem OH_pos {b : Bool} {h : ℕ} {d : Dev nD} {g : GSem nD τ sig} {u : Unit} (hp : 0 < OH b h d g u) :
    ∃ s, h ≤ s ∧ s < nH b ∧ g = dcell (peer b d) (rN b s) := by
  rw [OH_apply] at hp
  by_contra hn
  rw [Finset.sum_eq_zero fun s hs => if_neg fun e => hn ⟨s, (Finset.mem_Ico.mp hs).1, (Finset.mem_Ico.mp hs).2, e⟩] at hp
  exact Nat.lt_irrefl 0 hp
theorem OT_pos {h h' : ℕ} {d : Dev nD} {g : GSem nD τ sig} {u : Unit} (hp : 0 < OT h h' d g u) :
    ∃ b s, (if b then h else h') ≤ s ∧ s < nH b ∧ g = dcell (peer b d) (rN b s) := by
  unfold OT at hp
  rw [Pi.add_apply, Finsupp.add_apply] at hp
  rcases Nat.eq_zero_or_pos (OH true h d g u) with h0 | h0
  · rw [h0, Nat.zero_add] at hp
    obtain ⟨s, h1, h2, h3⟩ := OH_pos hp; exact ⟨false, s, h1, h2, h3⟩
  · obtain ⟨s, h1, h2, h3⟩ := OH_pos h0; exact ⟨true, s, h1, h2, h3⟩

theorem lv_bar (c : Dev nD) (u : Unit) : lv (bcell c) u = 1 := by
  show lvU (use (.reg barS)) = 1; rw [use_bar]; rfl
theorem lv_recv (c : Dev nD) {b : Bool} {s : ℕ} (h : s < nH b) (u : Unit) : lv (dcell c (rN b s)) u = 2 + s := by
  show lvU (use (.dma (dmaN (rN b s)))) = _; rw [use_recv h]; rfl

/-- A wait on a cell of level at most `k` while the hops still owed all arrive at cells above level `k`. -/
theorem mayWait (c : Dev nD) (sm : SemLoc sig) (k h h' : ℕ) (hl : lvU (use sm) ≤ k) (hk : h < nH true → k < 2 + h) (hk' : h' < nH false → k < 2 + h') :
    (levAts L lv : sProp 𝕄) ⊢ MayWait (c : Thread nD τ) sm () (OT h h' c) :=
  MayOwe.of_cut (L := L) (lev := lv) k (fun p hp => by rw [Finset.mem_singleton.mp hp, L_tc]; exact Finset.mem_singleton_self _)
    (fun g u hg => by obtain ⟨b, s, -, -, rfl⟩ := OT_pos hg; exact Finset.mem_singleton_self _)
    (fun p hp => by rw [Finset.mem_singleton.mp hp]; exact hl)
    (fun g u hg => by
      obtain ⟨b, s, h1, h2, rfl⟩ := OT_pos hg
      show k < lvU (use _)
      rw [use_recv h2]; show k < 2 + s
      cases b
      · have h1' : h' ≤ s := h1; have := hk' (by omega); omega
      · have h1' : h ≤ s := h1; have := hk (by omega); omega)

theorem O₀_pos {c : Dev nD} {g : GSem nD τ sig} {u : Unit} (hg : 0 < O₀ c g u) :
    (∃ b, g = bcell (peer b c)) ∨ 0 < OT 0 0 c g u := by
  unfold O₀ O₁ at hg
  rw [Pi.add_apply, Finsupp.add_apply, Pi.add_apply, Finsupp.add_apply, tallyAt_apply, tallyAt_apply] at hg
  by_contra hn
  rw [if_neg fun h => hn (.inl ⟨true, h.1⟩), if_neg fun h => hn (.inl ⟨false, h.1⟩), add_zero, add_zero] at hg
  exact hn (.inr hg)

/-- All that is owed at the start is owed to cells of some level. -/
theorem O₀_lv {c : Dev nD} {g : GSem nD τ sig} {u : Unit} (hg : 0 < O₀ c g u) : u ∈ L g ∧ 0 < lv g u := by
  rcases O₀_pos hg with ⟨b, h⟩ | h
  · rw [h, lv_bar, L_tc]; exact ⟨Finset.mem_singleton_self _, Nat.one_pos⟩
  · obtain ⟨b, s, -, h2, h3⟩ := OT_pos h
    rw [h3, lv_recv _ h2, L_tc]; exact ⟨Finset.mem_singleton_self _, by omega⟩

/-- The stage semaphores are below everything owed at the start. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have hu : lvU (use (.dma q)) = 0 := by
    show lvU (useN q.val) = 0; unfold useN; rw [if_pos hq]; rfl
  rcases hO with h | h
  · rw [h]
    exact MayOwe.of_cut (L := L) (lev := lv) 0 (fun p hp => by rw [Finset.mem_singleton.mp hp, L_tc]; exact Finset.mem_singleton_self _)
      (fun g u hg => (O₀_lv hg).1) (fun p hp => by rw [Finset.mem_singleton.mp hp]; exact hu.le) (fun g u hg => (O₀_lv hg).2)
  · rw [h, MayWait_zero]; iintro -; iempintro

end Cert.KernelIdeal.Hop

end
-- ==== Proof.Steps.lean ====
/- One lemma per kind of step of the body: a hop, a wait, a product, a store of the device's own block. -/
module

public import proofs.«01_k».proof.Proof.Proto

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A device's run of `k` ends in `Q`. -/
abbrev WP (d : Dev nD) (k : P F) (Q : PUnit → sProp 𝕄) : sProp 𝕄 :=
  wp frame (wpE (defs₀ (F := F)) 𝒱₀ (d : Thread nD τ) none) Set.univ k Q

/-- A device owes `O`, whatever it has waited on so far. -/
def owesX (d : Dev nD) (O : CellTallies nD τ sig Unit) : sProp 𝕄 := iprop(∃ W, owes (d : Thread nD τ) O W)

/-- The protocol's cells of a device: its barrier, and its copy semaphores from number 2 on. -/
def kcell (x : Dev nD × Option (Fin 128)) : GSem nD τ sig :=
  match x.2 with
  | none => bcell x.1
  | some k => dcell x.1 (k.val + 2)

section

variable (A : Dev nD → Vec F S768x384 .f32) (B : Dev nD → Vec F S384x768 .f32)

/-- What every device knows throughout: the cells' invariants, that their first rounds are reached, and the levels. -/
def ctx : sProp 𝕄 :=
  iprop((bigSep Finset.univ fun x : Dev nD × Option (Fin 128) => iprop(∃ κ : ℕ, cellInv ER (Rd A B) κ (kcell x)))
    ∗ (bigSep Finset.univ fun x : Dev nD × Option (Fin 128) => (reached ER (kcell x) 0 : sProp 𝕄))
    ∗ levAts L lv)
instance ctx_persistent : BI.Persistent (ctx A B) := by unfold ctx; infer_instance

theorem inv_at (x : Dev nD × Option (Fin 128)) :
    (bigSep Finset.univ fun x : Dev nD × Option (Fin 128) => iprop(∃ κ : ℕ, cellInv ER (Rd A B) κ (kcell x)) : sProp 𝕄)
      ⊢ iprop(∃ κ : ℕ, cellInv ER (Rd A B) κ (kcell x)) := bigSep_elim (Finset.mem_univ x)
theorem reached_at (x : Dev nD × Option (Fin 128)) :
    (bigSep Finset.univ fun x : Dev nD × Option (Fin 128) => (reached ER (kcell x) 0 : sProp 𝕄)) ⊢ reached ER (kcell x) 0 := bigSep_elim (Finset.mem_univ x)

theorem ctx_bar (d : Dev nD) : ctx A B ⊢ iprop((∃ κ : ℕ, cellInv ER (Rd A B) κ (bcell d)) ∗ reached ER (bcell d) 0) := by
  unfold ctx
  iintro ⟨H1, H2, -⟩
  isplitl [H1]
  · iapply (inv_at A B (d, none)) $$ H1
  · iapply (reached_at (d, none)) $$ H2
theorem ctx_dma (d : Dev nD) (n : ℕ) (h : 2 ≤ n) (h' : n < 130) :
    ctx A B ⊢ iprop((∃ κ : ℕ, cellInv ER (Rd A B) κ (dcell d n)) ∗ reached ER (dcell d n) 0) := by
  have e : kcell (d, some ⟨n - 2, by omega⟩) = dcell d n := by
    show dcell d (n - 2 + 2) = _; rw [Nat.sub_add_cancel h]
  unfold ctx
  rw [← e]
  iintro ⟨H1, H2, -⟩
  isplitl [H1]
  · iapply (inv_at A B (d, some ⟨n - 2, _⟩)) $$ H1
  · iapply (reached_at (d, some ⟨n - 2, _⟩)) $$ H2
theorem ctx_mayWait (d : Dev nD) (sm : SemLoc sig) (k h h' : ℕ) (hl : lvU (use sm) ≤ k) (hk : h < nH true → k < 2 + h) (hk' : h' < nH false → k < 2 + h') :
    ctx A B ⊢ MayWait (d : Thread nD τ) sm () (OT h h' d) := by
  refine BIBase.Entails.trans ?_ (mayWait (F := F) d sm k h h' hl hk hk')
  unfold ctx
  iintro ⟨-, -, H⟩; iexact H

theorem sN_ge (b : Bool) (s : ℕ) : 2 ≤ sN b s := by unfold sN; split <;> omega
theorem rN_ge (b : Bool) (s : ℕ) : 2 ≤ rN b s := by unfold rN; split <;> omega
theorem sN_lt {b : Bool} {s : ℕ} (h : s < nH b) : sN b s < 130 := send_lt h
theorem rN_lt {b : Bool} {s : ℕ} (h : s < nH b) : rN b s < 130 := recv_lt h

theorem sc_eq (d : Dev nD) {b : Bool} {s : ℕ} (h : s < nH b) : dcell d (sN b s) = ((d : Thread nD τ), .dma (sendS b s h)) := by
  rw [sendS_eq h]
theorem rc_eq (d : Dev nD) {b : Bool} {s : ℕ} (h : s < nH b) : dcell d (rN b s) = ((d : Thread nD τ), .dma (recvS b s h)) := by
  rw [recvS_eq h]
/-- The cell a product's copy completes on. -/
abbrev ocell (d : Dev nD) (b : Bool) (i : ℕ) : GSem nD τ sig := dcell d (126 + (qOf b i).val)
theorem oc_eq (d : Dev nD) (b : Bool) (i : ℕ) : ocell d b i = ((d : Thread nD τ), .dma (outS (qOf b i))) := by
  rw [outS_eq]

theorem half_pts (b : Bool) (c : Dev nD) (u : ℕ) (h : u < 2 * nS b) (q : PosShare TreeShare) (f : Buf (Elt F) ((gat b).view.loc (c : Thread nD τ))) :
    iprop((half b u h).view.loc (c : Thread nD τ) ↦[(half b u h).view.set]{q} f) = (hPts b c u q f : sProp 𝕄) := by
  rw [half_set]; rfl

/-! ## The steps -/

/-- The wait for the rest of a cell's round, through a copy's wait of the round's amount. -/
theorem wp_waitN (d : Dev nD) (q : DmaSem sig) (R N κ : ℕ) (O : CellTallies nD τ sig Unit) (W : Waits sig Unit)
    {sp sp' : Space} {s s' : Shape} {e e' : EltTy} {src : Memref sig .tc sp' s' e'} {dst : Memref sig .tc sp s e}
    {hsrc : src.view.WordExact} {hdst : dst.view.WordExact} (hN : dst.view.dmaCredit = N) (hE : (Rd A B).expect ((d : Thread nD τ), .dma q) R = N)
    (k : P F) (Q : PUnit → sProp 𝕄) :
    iprop(cellInv ER (Rd A B) κ ((d : Thread nD τ), .dma q) ∗ cred (tallyAt ((d : Thread nD τ), SemLoc.dma q) () N) ∗ owes (d : Thread nD τ) O W
        ∗ MayWait (d : Thread nD τ) (.dma q) () O ∗ atPos ER ((d : Thread nD τ), .dma q) R ∅ 0)
      ⊢ iprop(((owes (d : Thread nD τ) O (insert (SemLoc.dma q, ()) W) ∗ atPos ER ((d : Thread nD τ), .dma q) (R + 1) ∅ 0
            ∗ reached ER ((d : Thread nD τ), .dma q) (R + 1)
            ∗ bigSep ((Rd A B).duties ((d : Thread nD τ), .dma q) R \ ∅) (fun t => (Rd A B).payload ((d : Thread nD τ), .dma q) R t)) -∗ WP d k Q)
          -∗ WP d (.op (.waitDma2 q src dst hsrc hdst) fun _ => k) Q) := by
  subst hN
  exact Rounds.wp_wait_rest_token 𝒱₀ ER (Rd A B) (d : Thread nD τ) none (κ := κ)
      (wpE_waitDma2_eq 𝒱₀ (d : Thread nD τ) none Set.univ) (Set.mem_univ _) () (O := O) (W := W) (R := R) (m := 0) (T := ∅) (k := fun _ => k)
      (by rw [Nat.zero_add, hE])

/-- The hop's copy, its two half blocks held through their own views. -/
theorem wp_hop_raw (d : Dev nD) (b : Bool) (s : ℕ) (h : s < nH b) (κ κ' : ℕ) (O O' : CellTallies nD τ sig Unit)
    (hO : O = O' + tallyAt ((peer b d : Thread nD τ), SemLoc.dma (recvS b s h)) () (NH b)) (W : Waits sig Unit) (k : P F) (Q : PUnit → sProp 𝕄)
    (fs : Buf (Elt F) ((half b s (src_lt h)).view.loc (d : Thread nD τ))) (fd : Buf (Elt F) ((half b (s + 2) (dst_lt h)).view.loc (peer b d : Thread nD τ)))
    (hpay₁ : ((half b s (src_lt h)).view.loc (d : Thread nD τ) ↦[(half b s (src_lt h)).view.set]{fullShare.left} fs)
      ⊢ (Rd A B).payload ((d : Thread nD τ), SemLoc.dma (sendS b s h)) 0 false)
    (hpay₂ : ((half b (s + 2) (dst_lt h)).view.loc (peer b d : Thread nD τ) ↦[(half b (s + 2) (dst_lt h)).view.set]{fullShare}
        ((half b (s + 2) (dst_lt h)).view.write (Elt F) fd ((half b s (src_lt h)).view.read (Elt F) fs) Finset.univ))
      ⊢ (Rd A B).payload ((peer b d : Thread nD τ), SemLoc.dma (recvS b s h)) 0 false) :
    iprop(cellInv ER (Rd A B) κ ((d : Thread nD τ), SemLoc.dma (sendS b s h)) ∗ cellInv ER (Rd A B) κ' ((peer b d : Thread nD τ), SemLoc.dma (recvS b s h))
        ∗ ((half b s (src_lt h)).view.loc (d : Thread nD τ) ↦[(half b s (src_lt h)).view.set]{fullShare.left} fs)
        ∗ ((half b (s + 2) (dst_lt h)).view.loc (peer b d : Thread nD τ) ↦[(half b (s + 2) (dst_lt h)).view.set]{fullShare} fd)
        ∗ owes (d : Thread nD τ) O W
        ∗ dutyTok ER ((d : Thread nD τ), SemLoc.dma (sendS b s h)) 0 false ∗ reached ER ((d : Thread nD τ), SemLoc.dma (sendS b s h)) 0
        ∗ dutyTok ER ((peer b d : Thread nD τ), SemLoc.dma (recvS b s h)) 0 false ∗ reached ER ((peer b d : Thread nD τ), SemLoc.dma (recvS b s h)) 0)
      ⊢ iprop(((cred (tallyAt ((d : Thread nD τ), SemLoc.dma (sendS b s h)) () (NH b)) ∗ owes (d : Thread nD τ) O' W) -∗ WP d k Q)
          -∗ WP d (hop d b s h k) Q) :=
  Rounds.wp_send_pointsTo 𝒱₀ ER (Rd A B) (d : Thread nD τ) none (c' := (peer b d : Thread nD τ)) (sem := .dma (recvS b s h)) (src := half b s (src_lt h)) (dst := half b (s + 2) (dst_lt h))
    (κ₁ := κ) (κ₂ := κ') (r₁ := 0) (r₂ := 0) (d₁ := false) (d₂ := false) (q := fullShare.left) (fs := fs) (fd := fd) (k := fun _ => k)
    (by rw [← sc_eq d h, duties_send A B d h]; exact Finset.mem_singleton_self _)
    (by rw [← rc_eq _ h, duties_recv A B _ h]; exact Finset.mem_singleton_self _)
    () () (NH b) (half_credit b (s + 2) (dst_lt h))
    (by rw [← sc_eq d h]; exact amount_send A B d h 0 false) (by rw [← rc_eq _ h]; exact amount_recv A B _ h 0 false) O' hO (W := W) hpay₁ hpay₂

/-- A HOP: the left half share of the source and the neighbour's landing half block go with the copy. -/
theorem wp_hop (d : Dev nD) (b : Bool) (s : ℕ) (h : s < nH b) (O O' : CellTallies nD τ sig Unit)
    (hO : O = O' + tallyAt (dcell (peer b d) (rN b s)) () (NH b)) (k : P F) (Q : PUnit → sProp 𝕄) :
    iprop(ctx A B ∗ hPts b d s fullShare.left (GV A b d) ∗ (∃ f, hPts (F := F) b (peer b d) (s + 2) fullShare f) ∗ owesX d O
        ∗ dutyTok ER (dcell d (sN b s)) 0 false ∗ dutyTok ER (dcell (peer b d) (rN b s)) 0 false)
      ⊢ iprop(((cred (tallyAt (dcell d (sN b s)) () (NH b)) ∗ owesX d O') -∗ WP d k Q) -∗ WP d (hop d b s h k) Q) := by
  have hc := ctx_dma A B d (sN b s) (sN_ge b s) (sN_lt h)
  have hc' := ctx_dma A B (peer b d) (rN b s) (rN_ge b s) (rN_lt h)
  have hw := half_write A b (peer b d) s h
  rw [peer_peer'] at hw
  rw [sc_eq d h] at hc ⊢
  rw [rc_eq (peer b d) h] at hc' hO ⊢
  iintro ⟨#Hctx, Hs, ⟨%fd, Hd⟩, Ho, Ht, Ht'⟩ Hk
  unfold owesX
  icases Ho with ⟨%W, HO⟩
  ihave HI := hc $$ Hctx
  icases HI with ⟨⟨%κ, #HI⟩, #Hr⟩
  ihave HI' := hc' $$ Hctx
  icases HI' with ⟨⟨%κ', #HI'⟩, #Hr'⟩
  iapply (wp_hop_raw A B d b s h κ κ' O O' hO W k Q (GV A b d) fd
      (by rw [← sc_eq d h, payload_send A B d h, half_pts])
      (by
        rw [← rc_eq _ h, payload_recv A B _ h]
        exact (Entails.of_eq (half_pts b (peer b d) (s + 2) (dst_lt h) fullShare _)).trans
          (Entails.of_eq (pointsTo_congr fun i hi => hw fd i hi))))
    $$ [Hs Hd HO Ht Ht']
  · isplitr; · iexact HI
    isplitr; · iexact HI'
    isplitl [Hs]; · rw [half_pts]; iexact Hs
    isplitl [Hd]; · rw [half_pts]; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A wait for an ARRIVAL: the half block the hop landed in comes with it. -/
theorem wp_recv (d : Dev nD) (b : Bool) (s : ℕ) (h : s < nH b) (x y : ℕ) (hx : x < nH true → s < x) (hy : y < nH false → s < y) (k : P F) (Q : PUnit → sProp 𝕄) :
    iprop(ctx A B ∗ cred (tallyAt (dcell d (rN b s)) () (NH b)) ∗ owesX d (OT x y d) ∗ atPos ER (dcell d (rN b s)) 0 ∅ 0)
      ⊢ iprop(((owesX d (OT x y d) ∗ atPos ER (dcell d (rN b s)) 1 ∅ 0 ∗ hPts b d (s + 2) fullShare (GV A b d)) -∗ WP d k Q)
          -∗ WP d (recv b s h k) Q) := by
  have hc := ctx_dma A B d (rN b s) (rN_ge b s) (rN_lt h)
  have hr := rest_recv A B d h
  rw [rc_eq d h] at hc hr ⊢
  iintro ⟨#Hctx, Hc, Ho, Hat⟩ Hk
  unfold owesX
  icases Ho with ⟨%W, HO⟩
  ihave HI := hc $$ Hctx
  icases HI with ⟨⟨%κ, #HI⟩, -⟩
  unfold recv
  iapply (wp_waitN A B d (recvS b s h) (0) (NH b) κ (OT x y d) W (half_credit b (s + 2) (dst_lt h)) (by rw [← rc_eq d h, expect_recv A B d h]) k Q) $$ [Hc HO Hat]
  · isplitr; · iexact HI
    isplitl [Hc]; · iexact Hc
    isplitl [HO]; · iexact HO
    isplitr
    · iapply (ctx_mayWait A B d (.dma (recvS b s h)) (2 + s) x y
        (by rw [recvS_eq h, use_recv h]; exact le_rfl) (fun h => by have := hx h; omega) (fun h => by have := hy h; omega)) $$ Hctx
    iexact Hat
  iintro ⟨HO, Hat, -, Hpay⟩
  iapply Hk
  isplitl [HO]; · iexists _; iexact HO
  isplitl [Hat]; · iexact Hat
  iapply (Entails.of_eq hr); iexact Hpay

/-- A wait for a DEPARTURE, when nothing is owed any more: the source's share comes back. -/
theorem wp_sent (d : Dev nD) (b : Bool) (s : ℕ) (h : s < nH b) (k : P F) (Q : PUnit → sProp 𝕄) :
    iprop(ctx A B ∗ cred (tallyAt (dcell d (sN b s)) () (NH b)) ∗ owesX d 0 ∗ atPos ER (dcell d (sN b s)) 0 ∅ 0)
      ⊢ iprop(((owesX d 0 ∗ atPos ER (dcell d (sN b s)) 1 ∅ 0 ∗ hPts b d s fullShare.left (GV A b d)) -∗ WP d k Q)
          -∗ WP d (sent b s h k) Q) := by
  have hc := ctx_dma A B d (sN b s) (sN_ge b s) (sN_lt h)
  have hr := rest_send A B d h
  rw [sc_eq d h] at hc hr ⊢
  iintro ⟨#Hctx, Hc, Ho, Hat⟩ Hk
  unfold owesX
  icases Ho with ⟨%W, HO⟩
  ihave HI := hc $$ Hctx
  icases HI with ⟨⟨%κ, #HI⟩, -⟩
  unfold sent
  iapply (wp_waitN A B d (sendS b s h) (0) (NH b) κ (0) W (half_credit b s (src_lt h)) (by rw [← sc_eq d h, expect_send A B d h]) k Q) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq hr); iexact Hpay

/-- A wait for a PRODUCT's copy: the result's rows come filled, and the product buffer back. -/
theorem wp_waitOut (d : Dev nD) (b : Bool) (i : Fin (nI b)) (x y : ℕ) (k : P F) (Q : PUnit → sProp 𝕄) :
    iprop(ctx A B ∗ cred (tallyAt (ocell d b i.val) () NO) ∗ owesX d (OT x y d) ∗ atPos ER (ocell d b i.val) (i.val / 2) ∅ 0)
      ⊢ iprop(((owesX d (OT x y d) ∗ atPos ER (ocell d b i.val) (i.val / 2 + 1) ∅ 0 ∗ reached ER (ocell d b i.val) (i.val / 2 + 1)
            ∗ oPts d (org b (i.val + c0 b) d) (OV A B d) ∗ ∃ f, cPts d (qOf b i.val) f) -∗ WP d k Q)
          -∗ WP d (waitOut d b i k) Q) := by
  have hq : 126 + (qOf b i.val).val < 130 := by have := (qOf b i.val).2; omega
  have hc := ctx_dma A B d (126 + (qOf b i.val).val) (by omega) hq
  have hr := rest_out A B d (qOf b i.val) (i.val / 2) (lt_nR i.2)
  rw [show dcell d (126 + (qOf b i.val).val) = _ from oc_eq d b i.val] at hc hr
  rw [qb_qOf, sl_qOf] at hr
  rw [oc_eq d b i.val]
  iintro ⟨#Hctx, Hc, Ho, Hat⟩ Hk
  unfold owesX
  icases Ho with ⟨%W, HO⟩
  ihave HI := hc $$ Hctx
  icases HI with ⟨⟨%κ, #HI⟩, -⟩
  unfold waitOut
  iapply (wp_waitN A B d (outS (qOf b i.val)) (i.val / 2) NO κ (OT x y d) W (out_credit d b i) (by rw [← oc_eq, expect_out A B d _ _ (lt_nR i.2)]) k Q) $$ [Hc HO Hat]
  · isplitr; · iexact HI
    isplitl [Hc]; · iexact Hc
    isplitl [HO]; · iexact HO
    isplitr
    · iapply (ctx_mayWait A B d (.dma (outS (qOf b i.val))) 0 x y
        (by rw [outS_eq, use_out]; exact le_rfl) (fun h => by omega) (fun h => by omega)) $$ Hctx
    iexact Hat
  iintro ⟨HO, Hat, Hr, Hpay⟩
  iapply Hk
  isplitl [HO]; · iexists _; iexact HO
  isplitl [Hat]; · iexact Hat
  isplitl [Hr]; · iexact Hr
  ihave Hp := (Entails.of_eq hr) $$ Hpay
  unfold outPay
  iexact Hp

/-- The right operand's staging buffer. -/
abbrev bM : Memref sig .tc .vmem S384x768 .f32 := Memref.whole cc0_stg1_0
abbrev aM : Memref sig .tc .vmem S768x384 .f32 := Memref.whole cc0_stg0_0
def bPts (d : Dev nD) : sProp 𝕄 := ((d : Thread nD τ).loc cc0_stg1_0) ↦{fullShare} (B d : Buf (Elt F) ((d : Thread nD τ).loc cc0_stg1_0))
def aPts (d : Dev nD) : sProp 𝕄 := ((d : Thread nD τ).loc cc0_stg0_0) ↦{fullShare} (A d : Buf (Elt F) ((d : Thread nD τ).loc cc0_stg0_0))

theorem hz : (![0, 0] : Fin 2 → ℕ) = fun _ => 0 := by funext a; fin_cases a <;> rfl

theorem a_read (f : Vec F S768x384 .f32) :
    aM.view.readAt (Elt F) (Rect.unit (s := S768x384) ![0, 0] S768x384.size inb_S768x384_S768x384_0_0).toLoadRect f = f :=
  Memref.readAt_unit_zero (Elt F) cc0_stg0_0 hz _ _
theorem b_read (f : Vec F S384x768 .f32) :
    bM.view.readAt (Elt F) (Rect.unit (s := S384x768) ![0, 0] S384x768.size inb_S384x768_S384x768_0_0).toLoadRect f = f :=
  Memref.readAt_unit_zero (Elt F) cc0_stg1_0 hz _ _

/-- A load through a rectangle, the buffer held through the whole memref's view. -/
theorem wp_ld (d : Dev nD) {s : Shape} {e : EltTy} (m : Memref sig .tc .vmem s e) (r : Rect s) (S : Finset (Idx (m.view.loc (d : Thread nD τ))))
    (hS : m.view.setOn r.set ⊆ S) (q : PosShare TreeShare) (f : Buf (Elt F) (m.view.loc (d : Thread nD τ))) (hl : m.view.LoadsAt r.toLoadRect)
    (k : (r.shape.Idx → Elt F e) → P F) (Q : PUnit → sProp 𝕄) :
    (m.view.loc (d : Thread nD τ) ↦[S]{q} f)
      ⊢ iprop(((m.view.loc (d : Thread nD τ) ↦[S]{q} f) -∗ WP d (k (m.view.readAt (Elt F) r.toLoadRect f)) Q) -∗ WP d (.op (.load m r.toLoadRect hl) k) Q) :=
  wp_load 𝒱₀ (d : Thread nD τ) none Set.univ hS
/-- A store through a rectangle, likewise. -/
theorem wp_st (d : Dev nD) {s : Shape} {e : EltTy} (m : Memref sig .tc .vmem s e) (r : Rect s) (S : Finset (Idx (m.view.loc (d : Thread nD τ))))
    (hS : m.view.setOn r.set ⊆ S) (f : Buf (Elt F) (m.view.loc (d : Thread nD τ))) (w : r.shape.Idx → Elt F e)
    (hx : (m.access r).Stores Finset.univ) (hm : (Finset.univ : Finset r.shape.Idx) = Finset.univ ∨ ∀ a, r.stride a = 1)
    (k : P F) (Q : PUnit → sProp 𝕄) :
    (m.view.loc (d : Thread nD τ) ↦[S]{fullShare} f)
      ⊢ iprop(((m.view.loc (d : Thread nD τ) ↦[S]{fullShare} ((m.access r).write (Elt F) f w Finset.univ)) -∗ WP d k Q)
        -∗ WP d (.op (.store m r w Finset.univ hx hm) fun _ => k) Q) :=
  wp_store 𝒱₀ (d : Thread nD τ) none Set.univ (m := m) (r := r) (S := S) (f := f) (w := w) (hx := hx) (hm := hm) (k := fun _ => k) (by rw [View.setOn_univ, View.set_slice]; exact hS)
/-- The copy of a product to the result, its source and destination held through their own views. -/
theorem wp_out_raw (d : Dev nD) (b : Bool) (i : Fin (nI b)) (κ : ℕ) (fs : Buf (Elt F) ((cbM (qOf b i.val)).view.loc (d : Thread nD τ)))
    (fd : Buf (Elt F) ((outBlk d b i).view.loc (d : Thread nD τ))) (k : P F) (Q : PUnit → sProp 𝕄)
    (hpay : iprop(((outBlk d b i).view.loc (d : Thread nD τ) ↦[(outBlk d b i).view.set]{fullShare}
          ((outBlk d b i).view.write (Elt F) fd ((cbM (qOf b i.val)).view.read (Elt F) fs) Finset.univ))
        ∗ ((cbM (qOf b i.val)).view.loc (d : Thread nD τ) ↦[(cbM (qOf b i.val)).view.set]{fullShare} fs))
      ⊢ (Rd A B).payload ((d : Thread nD τ), .dma (outS (qOf b i.val))) (i.val / 2) false) :
    iprop(cellInv ER (Rd A B) κ ((d : Thread nD τ), .dma (outS (qOf b i.val)))
        ∗ ((cbM (qOf b i.val)).view.loc (d : Thread nD τ) ↦[(cbM (qOf b i.val)).view.set]{fullShare} fs)
        ∗ ((outBlk d b i).view.loc (d : Thread nD τ) ↦[(outBlk d b i).view.set]{fullShare} fd)
        ∗ dutyTok ER ((d : Thread nD τ), .dma (outS (qOf b i.val))) (i.val / 2) false
        ∗ reached ER ((d : Thread nD τ), .dma (outS (qOf b i.val))) (i.val / 2))
      ⊢ iprop((cred (tallyAt ((d : Thread nD τ), .dma (outS (qOf b i.val))) () NO) -∗ WP d k Q)
          -∗ WP d (.op (.enqueueDma (cbM (qOf b i.val)) (.here (outBlk d b i)) (.dma (outS (qOf b i.val))) (cbM_we _) (outBlk_we d b i) ⟨Or.inl rfl, trivial⟩) fun _ => k) Q) :=
  Rounds.wp_copy_pointsTo 𝒱₀ ER (Rd A B) (d : Thread nD τ) none (src := cbM (qOf b i.val)) (dst := outBlk d b i) (sem := .dma (outS (qOf b i.val)))
    (κ := κ) (r := i.val / 2) (d := false) (q := fullShare) (fs := fs) (fd := fd) (k := fun _ => k)
    (by rw [← oc_eq, duties_out A B d _ _ (lt_nR i.2)]; exact Finset.mem_singleton_self _) () NO rfl
    (by rw [← oc_eq]; exact amount_out A B d _ _ _) hpay

set_option maxHeartbeats 4000000 in
/-- A PRODUCT: from the slot's block and the right operand into the product buffer, and from there to the result. -/
theorem wp_comp (d : Dev nD) (b : Bool) (i : Fin (nI b)) (q : PosShare TreeShare) (k : P F) (Q : PUnit → sProp 𝕄) :
    iprop(ctx A B ∗ ((gat b).view.loc (d : Thread nD τ) ↦[hset b (2 * (i.val + c0 b)) ∪ hset b (2 * (i.val + c0 b) + 1)]{q} (GV A b d))
        ∗ bPts B d ∗ (∃ f, cPts d (qOf b i.val) f) ∗ (∃ f, oPts d (org b (i.val + c0 b) d) f)
        ∗ dutyTok ER (ocell d b i.val) (i.val / 2) false ∗ reached ER (ocell d b i.val) (i.val / 2))
      ⊢ iprop(((((gat b).view.loc (d : Thread nD τ) ↦[hset b (2 * (i.val + c0 b)) ∪ hset b (2 * (i.val + c0 b) + 1)]{q} (GV A b d))
            ∗ bPts B d ∗ cred (tallyAt (ocell d b i.val) () NO)) -∗ WP d k Q)
          -∗ WP d (comp d bM b i k) Q) := by
  have hq : 126 + (qOf b i.val).val < 130 := by have := (qOf b i.val).2; omega
  have hc := ctx_dma A B d (126 + (qOf b i.val).val) (by omega) hq
  rw [show dcell d (126 + (qOf b i.val).val) = _ from oc_eq d b i.val] at hc
  rw [oc_eq d b i.val]
  iintro ⟨#Hctx, Hs, Hb, ⟨%fc, Hc⟩, ⟨%fo, Ho⟩, Ht, #Hr⟩ Hk
  ihave HI := hc $$ Hctx
  icases HI with ⟨⟨%κ, #HI⟩, -⟩
  unfold comp
  iapply (wp_ld d (gat b) (slotR b (i.val + c0 b) (slot_of i)) _ (slot_set b _ (slot_of i)).subset q (GV A b d)) $$ Hs
  iintro Hs
  rw [slot_read]
  unfold bPts
  iapply (wp_ld d bM _ Finset.univ (Finset.subset_univ _) fullShare (B d)) $$ Hb
  iintro Hb
  rw [b_read]
  unfold cPts
  iapply (wp_ld d cb (cbR (qOf b i.val)) (cset (qOf b i.val)) (cb_access_set _).subset fullShare fc) $$ Hc
  iintro Hc
  iapply (wp_st d cb (cbR (qOf b i.val)) (cset (qOf b i.val)) (cb_access_set _).subset fc) $$ Hc
  iintro Hc
  iapply (wp_out_raw A B d b i κ
      (((cb : Memref sig .tc .vmem S4x768x768 .f32).access (cbR (qOf b i.val))).write (Elt F) fc (C3 A B (org b (i.val + c0 b) d) d) Finset.univ) fo k Q
      (by
        rw [← oc_eq, payload_out, qb_qOf, sl_qOf]
        rw [pointsTo_congr fun x hx => out_write A B d b i fc fo x hx, outBlk_set, cbM_set]
        unfold outPay oPts cPts
        iintro ⟨H1, H2⟩
        isplitl [H1]; · iexact H1
        iexists _; iexact H2))
    $$ [Hc Ho Ht]
  · isplitr; · iexact HI
    isplitl [Hc]; · rw [cbM_set]; iexact Hc
    isplitl [Ho]; · rw [outBlk_set]; unfold oPts; iexact Ho
    isplitl [Ht]; · iexact Ht
    iexact Hr
  iintro Hcr
  iapply Hk
  isplitl [Hs]; · iexact Hs
  isplitl [Hb]; · iexact Hb
  iexact Hcr

set_option maxHeartbeats 4000000 in
/-- The device's own block stored in slot 0. -/
theorem wp_initSlot (d : Dev nD) (b : Bool) (k : P F) (Q : PUnit → sProp 𝕄) :
    iprop(aPts A d ∗ ∃ f, (gat b).view.loc (d : Thread nD τ) ↦[hset b 0 ∪ hset b 1]{fullShare} f)
      ⊢ iprop(((aPts A d ∗ ((gat b).view.loc (d : Thread nD τ) ↦[hset b 0 ∪ hset b 1]{fullShare} (GV A b d))) -∗ WP d k Q)
          -∗ WP d (initSlot aM b k) Q) := by
  have h0 : 0 < nS b := by cases b <;> decide
  iintro ⟨Ha, ⟨%f, Hs⟩⟩ Hk
  unfold initSlot aPts
  iapply (wp_ld d aM _ Finset.univ (Finset.subset_univ _) fullShare (A d)) $$ Ha
  iintro Ha
  rw [a_read]
  iapply (wp_ld d (gat b) (slotR b 0 h0) _ (slot_set b 0 h0).subset fullShare f) $$ Hs
  iintro Hs
  iapply (wp_st d (gat b) (slotR b 0 h0) _ (slot_set b 0 h0).subset f (A3 A d) (slot_stores b 0 h0) (.inl rfl) k Q) $$ Hs
  iintro Hs
  iapply Hk
  isplitl [Ha]; · iexact Ha
  iapply (Entails.of_eq (pointsTo_congr fun i hi => init_write A b d h0 f i (by rw [slot_set]; exact hi))); iexact Hs

end

end Cert.KernelIdeal.Hop

end
-- ==== Proof.State.lean ====
/- What a device holds after so many hops, arrivals and products, and what one step, one round and the whole body make of it. -/
module

public import proofs.«01_k».proof.Proof.Steps
public import Idealize.SL.BI.BigOpNat

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A direction's transfers -/

/-- The rights to hop `s` that the launch deals out. -/
def hopTok (b : Bool) (d : Dev nD) (s : ℕ) : sProp 𝕄 :=
  iprop(dutyTok ER (dcell d (sN b s)) 0 false ∗ dutyTok ER (dcell (peer b d) (rN b s)) 0 false ∗ atPos ER (dcell d (sN b s)) 0 ∅ 0)
/-- The half block of the neighbour that hop `s` lands in. -/
def land (b : Bool) (d : Dev nD) (s : ℕ) : sProp 𝕄 := iprop(∃ f, hPts (F := F) b (peer b d) (s + 2) fullShare f)
/-- Hop `s` still to be made. -/
def hopTodo (b : Bool) (d : Dev nD) (s : ℕ) : sProp 𝕄 := iprop(hopTok b d s ∗ land b d s)
/-- Hop `s` made, its departure not yet waited for. -/
def hopSent (b : Bool) (d : Dev nD) (s : ℕ) : sProp 𝕄 :=
  iprop(cred (tallyAt (dcell d (sN b s)) () (NH b)) ∗ atPos ER (dcell d (sN b s)) 0 ∅ 0)
/-- Arrival `s` still to be waited for. -/
def recvTodo (b : Bool) (d : Dev nD) (s : ℕ) : sProp 𝕄 :=
  iprop(cred (tallyAt (dcell d (rN b s)) () (NH b)) ∗ atPos ER (dcell d (rN b s)) 0 ∅ 0)
/-- Arrival `s` waited for. -/
def recvDone (b : Bool) (d : Dev nD) (s : ℕ) : sProp 𝕄 := atPos ER (dcell d (rN b s)) 1 ∅ 0

section

variable (A : Dev nD → Vec F S768x384 .f32) (B : Dev nD → Vec F S384x768 .f32)

/-- Half block `u`, held outright, at its final contents. -/
def fullH (b : Bool) (d : Dev nD) (u : ℕ) : sProp 𝕄 := hPts b d u fullShare (GV A b d)
/-- The same at the left half share, which a hop takes along. -/
def leftH (b : Bool) (d : Dev nD) (u : ℕ) : sProp 𝕄 := hPts b d u fullShare.left (GV A b d)
/-- The same at the right half share, which stays. -/
def rightH (b : Bool) (d : Dev nD) (u : ℕ) : sProp 𝕄 := hPts b d u fullShare.right (GV A b d)
/-- Hop `s`'s departure waited for. -/
def sentDone (b : Bool) (d : Dev nD) (s : ℕ) : sProp 𝕄 := iprop(atPos ER (dcell d (sN b s)) 1 ∅ 0 ∗ leftH A b d s)

/-- A direction after `h` hops and `r` arrivals. -/
def Dir (b : Bool) (d : Dev nD) (h r : ℕ) : sProp 𝕄 :=
  iprop(bigSep (Finset.Ico h (nH b)) (hopTodo b d) ∗ bigSep (Finset.range h) (hopSent b d)
    ∗ bigSep (Finset.Ico r (nH b)) (recvTodo b d) ∗ bigSep (Finset.range r) (recvDone b d)
    ∗ bigSep (Finset.range h) (rightH A b d) ∗ bigSep (Finset.Ico h (r + 2)) (fullH A b d))

theorem fullH_split (b : Bool) (d : Dev nD) (u : ℕ) : fullH A b d u ⊢ iprop(leftH A b d u ∗ rightH A b d u) := by
  unfold fullH leftH rightH hPts
  exact (pointsTo_share (PosShare.mem_left_op_right fullShare)).1
theorem fullH_join (b : Bool) (d : Dev nD) (u : ℕ) : iprop(leftH A b d u ∗ rightH A b d u) ⊢ fullH A b d u := by
  unfold fullH leftH rightH hPts
  exact (pointsTo_share (PosShare.mem_left_op_right fullShare)).2

/-- One more hop, of a half block already there. -/
theorem Dir_hop (d : Dev nD) (b : Bool) (h r : ℕ) (hh : h < nH b) (hr : h < r + 2) (O O' : CellTallies nD τ sig Unit)
    (hO : O = O' + tallyAt (dcell (peer b d) (rN b h)) () (NH b)) (k : P F) (Q : PUnit → sProp 𝕄) :
    iprop(ctx A B ∗ Dir A b d h r ∗ owesX d O)
      ⊢ iprop(((Dir A b d (h + 1) r ∗ owesX d O') -∗ WP d k Q) -∗ WP d (hop d b h hh k) Q) := by
  unfold Dir
  rw [bigSep_Ico_succ_bot hh (hopTodo b d), bigSep_Ico_succ_bot hr (fullH A b d), bigSep_range_succ h (hopSent b d),
    bigSep_range_succ h (rightH A b d)]
  iintro ⟨#Hctx, ⟨⟨Hh, HT⟩, HS, HR, HD, Hrt, ⟨Hf, HF⟩⟩, Ho⟩ Hk
  unfold hopTodo hopTok land
  icases Hh with ⟨⟨Ht, Ht', Hat⟩, Hl⟩
  ihave Hf2 := (fullH_split A b d h) $$ Hf
  icases Hf2 with ⟨Hfl, Hfr⟩
  unfold leftH
  iapply (wp_hop A B d b h hh O O' hO k Q) $$ [Hfl Hl Ho Ht Ht']
  · isplitr; · iexact Hctx
    isplitl [Hfl]; · iexact Hfl
    isplitl [Hl]; · iexact Hl
    isplitl [Ho]; · iexact Ho
    isplitl [Ht]; · iexact Ht
    iexact Ht'
  iintro ⟨Hc, Ho⟩
  iapply Hk
  isplitr [Ho]
  · isplitl [HT]; · iexact HT
    isplitl [Hc Hat HS]
    · isplitl [Hc Hat]
      · unfold hopSent; isplitl [Hc]; · iexact Hc
        iexact Hat
      iexact HS
    isplitl [HR]; · iexact HR
    isplitl [HD]; · iexact HD
    isplitl [Hfr Hrt]
    · isplitl [Hfr]; · iexact Hfr
      iexact Hrt
    iexact HF
  iexact Ho

/-- One more arrival. -/
theorem Dir_recv (d : Dev nD) (b : Bool) (h r : ℕ) (hh : r < nH b) (hr : h ≤ r + 2) (x y : ℕ) (hx : x < nH true → r < x) (hy : y < nH false → r < y)
    (k : P F) (Q : PUnit → sProp 𝕄) :
    iprop(ctx A B ∗ Dir A b d h r ∗ owesX d (OT x y d))
      ⊢ iprop(((Dir A b d h (r + 1) ∗ owesX d (OT x y d)) -∗ WP d k Q) -∗ WP d (recv b r hh k) Q) := by
  unfold Dir
  rw [bigSep_Ico_succ_bot hh (recvTodo b d), bigSep_range_succ r (recvDone b d), show r + 1 + 2 = (r + 2) + 1 from rfl,
    bigSep_Ico_succ_top hr (fullH A b d)]
  iintro ⟨#Hctx, ⟨HT, HS, ⟨Hr, HR⟩, HD, Hrt, HF⟩, Ho⟩ Hk
  unfold recvTodo
  icases Hr with ⟨Hc, Hat⟩
  iapply (wp_recv A B d b r hh x y hx hy k Q) $$ [Hc Ho Hat]
  · isplitr; · iexact Hctx
    isplitl [Hc]; · iexact Hc
    isplitl [Ho]; · iexact Ho
    iexact Hat
  iintro ⟨Ho, Hat, Hf⟩
  iapply Hk
  isplitr [Ho]
  · isplitl [HT]; · iexact HT
    isplitl [HS]; · iexact HS
    isplitl [HR]; · iexact HR
    isplitl [Hat HD]
    · isplitl [Hat]; · unfold recvDone; iexact Hat
      iexact HD
    isplitl [Hrt]; · iexact Hrt
    isplitl [Hf]; · unfold fullH; iexact Hf
    iexact HF
  iexact Ho

/-- Two members of a run set apart. -/
theorem two_at (S : Finset ℕ) (u v : ℕ) (hu : u ∈ S) (hv : v ∈ S) (huv : u ≠ v) (Φ : ℕ → sProp 𝕄) :
    bigSep S Φ = iprop((Φ u ∗ Φ v) ∗ bigSep (S \ {u, v}) Φ) := by
  have e1 : bigSep S Φ = iprop(bigSep {u, v} Φ ∗ bigSep (S \ {u, v}) Φ) := BI.bigSep_sdiff_split (fun x hx => by
    rcases Finset.mem_insert.mp hx with h | h
    · rw [h]; exact hu
    · rw [Finset.mem_singleton.mp h]; exact hv)
  have e2 : bigSep {u, v} Φ = iprop(Φ u ∗ bigSep {v} Φ) := BI.bigSep_insert (fun h => huv (Finset.mem_singleton.mp h))
  rw [e1, e2, bigSep_singleton]

/-- Slot `c`, held at some share. -/
def slotPts (b : Bool) (d : Dev nD) (c : ℕ) (q : PosShare TreeShare) : sProp 𝕄 :=
  (gat b).view.loc (d : Thread nD τ) ↦[hset b (2 * c) ∪ hset b (2 * c + 1)]{q} (GV A b d)
theorem slot_halves (b : Bool) (d : Dev nD) (c : ℕ) (q : PosShare TreeShare) :
    slotPts A b d c q ⊣⊢ iprop(hPts b d (2 * c) q (GV A b d) ∗ hPts b d (2 * c + 1) q (GV A b d)) := by
  unfold slotPts hPts
  exact pointsTo_union (hset_disj b (by omega))

/-- A slot whose halves are both there can be read: at the share that stays if it was sent on, outright if not. -/
theorem Dir_slot (d : Dev nD) (b : Bool) (h r c : ℕ) (hc : 2 * c + 1 < h ∨ (h ≤ 2 * c ∧ 2 * c + 1 < r + 2)) :
    Dir A b d h r ⊢ iprop(∃ q, slotPts A b d c q ∗ (slotPts A b d c q -∗ Dir A b d h r)) := by
  unfold Dir
  rcases hc with hc | ⟨hc, hc'⟩
  · rw [two_at (Finset.range h) (2 * c) (2 * c + 1) (Finset.mem_range.mpr (by omega)) (Finset.mem_range.mpr hc) (by omega) (rightH A b d)]
    iintro ⟨H1, H2, H3, H4, ⟨Hs, H5⟩, H6⟩
    iexists fullShare.right
    unfold rightH
    isplitl [Hs]; · iapply (slot_halves A b d c _).2; iexact Hs
    iintro Hs
    isplitl [H1]; · iexact H1
    isplitl [H2]; · iexact H2
    isplitl [H3]; · iexact H3
    isplitl [H4]; · iexact H4
    isplitl [Hs H5]
    · isplitl [Hs]; · iapply (slot_halves A b d c _).1; iexact Hs
      iexact H5
    iexact H6
  · rw [two_at (Finset.Ico h (r + 2)) (2 * c) (2 * c + 1) (Finset.mem_Ico.mpr (by omega)) (Finset.mem_Ico.mpr (by omega)) (by omega) (fullH A b d)]
    iintro ⟨H1, H2, H3, H4, H5, ⟨Hs, H6⟩⟩
    iexists fullShare
    unfold fullH
    isplitl [Hs]; · iapply (slot_halves A b d c _).2; iexact Hs
    iintro Hs
    isplitl [H1]; · iexact H1
    isplitl [H2]; · iexact H2
    isplitl [H3]; · iexact H3
    isplitl [H4]; · iexact H4
    isplitl [H5]; · iexact H5
    isplitl [Hs]; · iapply (slot_halves A b d c _).1; iexact Hs
    iexact H6

/-! ## A direction's products -/

/-- Product `i` still to be made. -/
def outTodo (b : Bool) (d : Dev nD) (i : ℕ) : sProp 𝕄 :=
  iprop(dutyTok ER (ocell d b i) (i / 2) false ∗ ∃ f, oPts (F := F) d (org b (i + c0 b) d) f)
/-- Product `i` on its way to the result. -/
def inFl (b : Bool) (d : Dev nD) (i : ℕ) : sProp 𝕄 := iprop(cred (tallyAt (ocell d b i) () NO) ∗ atPos ER (ocell d b i) (i / 2) ∅ 0)
/-- Product `i` in the result. -/
def outDone (b : Bool) (d : Dev nD) (i : ℕ) : sProp 𝕄 := oPts d (org b (i + c0 b) d) (OV A B d)
/-- The product buffer of product `i`, free for it. -/
def slotFree (b : Bool) (d : Dev nD) (i : ℕ) : sProp 𝕄 :=
  iprop((∃ f, cPts (F := F) d (qOf b i) f) ∗ atPos ER (ocell d b i) (i / 2) ∅ 0 ∗ reached ER (ocell d b i) (i / 2))

/-- A direction's products after `n` were made and `w` waited for. -/
def Cst (b : Bool) (d : Dev nD) (n w : ℕ) : sProp 𝕄 :=
  iprop(bigSep (Finset.Ico n (nI b)) (outTodo b d) ∗ bigSep (Finset.Ico w n) (inFl b d)
    ∗ bigSep (Finset.range w) (outDone A B b d) ∗ bigSep (Finset.Ico n (w + 2)) (slotFree b d))

/-- A wait for product `i`: its rows are filled and the product buffer is free for product `i + 2`. -/
theorem item_wait (d : Dev nD) (b : Bool) (i : Fin (nI b)) (x y : ℕ) (k : P F) (Q : PUnit → sProp 𝕄) :
    iprop(ctx A B ∗ inFl b d i.val ∗ owesX d (OT x y d))
      ⊢ iprop(((outDone A B b d i.val ∗ slotFree b d (i.val + 2) ∗ owesX d (OT x y d)) -∗ WP d k Q) -∗ WP d (waitOut d b i k) Q) := by
  iintro ⟨#Hctx, Hi, Ho⟩ Hk
  unfold inFl
  icases Hi with ⟨Hc, Hat⟩
  iapply (wp_waitOut A B d b i x y k Q) $$ [Hc Hat Ho]
  · isplitr; · iexact Hctx
    isplitl [Hc]; · iexact Hc
    isplitl [Ho]; · iexact Ho
    iexact Hat
  iintro ⟨Ho, Hat, Hr, Hout, Hcb⟩
  iapply Hk
  isplitl [Hout]; · unfold outDone; iexact Hout
  isplitr [Ho]
  · unfold slotFree ocell
    rw [qOf_two, show (i.val + 2) / 2 = i.val / 2 + 1 by omega]
    isplitl [Hcb]; · iexact Hcb
    isplitl [Hat]; · iexact Hat
    iexact Hr
  iexact Ho

theorem Cst_wait (d : Dev nD) (b : Bool) (n w : ℕ) (hw : w < nI b) (hwn : w < n) (hn : n ≤ w + 2) (x y : ℕ) (k : P F) (Q : PUnit → sProp 𝕄) :
    iprop(ctx A B ∗ Cst A B b d n w ∗ owesX d (OT x y d))
      ⊢ iprop(((Cst A B b d n (w + 1) ∗ owesX d (OT x y d)) -∗ WP d k Q) -∗ WP d (waitOut d b ⟨w, hw⟩ k) Q) := by
  unfold Cst
  rw [bigSep_Ico_succ_bot hwn (inFl b d), bigSep_range_succ w (outDone A B b d), show w + 1 + 2 = (w + 2) + 1 from rfl,
    bigSep_Ico_succ_top hn (slotFree b d)]
  iintro ⟨#Hctx, ⟨HT, ⟨Hi, HI⟩, HD, HF⟩, Ho⟩ Hk
  iapply (item_wait A B d b ⟨w, hw⟩ x y k Q) $$ [Hi Ho]
  · isplitr; · iexact Hctx
    isplitl [Hi]; · iexact Hi
    iexact Ho
  iintro ⟨Hd, Hf, Ho⟩
  iapply Hk
  isplitr [Ho]
  · isplitl [HT]; · iexact HT
    isplitl [HI]; · iexact HI
    isplitl [Hd HD]
    · isplitl [Hd]; · iexact Hd
      iexact HD
    isplitl [Hf]; · iexact Hf
    iexact HF
  iexact Ho

theorem Cst_comp (d : Dev nD) (b : Bool) (n w : ℕ) (hn : n < nI b) (hwn : w ≤ n) (hnw : n < w + 2) (h r : ℕ)
    (hc : 2 * (n + c0 b) + 1 < h ∨ (h ≤ 2 * (n + c0 b) ∧ 2 * (n + c0 b) + 1 < r + 2)) (k : P F) (Q : PUnit → sProp 𝕄) :
    iprop(ctx A B ∗ Dir A b d h r ∗ Cst A B b d n w ∗ bPts B d)
      ⊢ iprop(((Dir A b d h r ∗ Cst A B b d (n + 1) w ∗ bPts B d) -∗ WP d k Q) -∗ WP d (comp d bM b ⟨n, hn⟩ k) Q) := by
  unfold Cst
  rw [bigSep_Ico_succ_bot hn (outTodo b d), bigSep_Ico_succ_bot hnw (slotFree b d), bigSep_Ico_succ_top hwn (inFl b d)]
  iintro ⟨#Hctx, HDir, ⟨⟨Ht, HT⟩, HI, HD, ⟨Hf, HF⟩⟩, Hb⟩ Hk
  ihave Hs := (Dir_slot A d b h r (n + c0 b) hc) $$ HDir
  icases Hs with ⟨%q, Hs, Hback⟩
  unfold outTodo slotFree slotPts
  icases Ht with ⟨Htok, Hout⟩
  icases Hf with ⟨Hcb, Hat, Hr⟩
  iapply (wp_comp A B d b ⟨n, hn⟩ q k Q) $$ [Hs Hb Hcb Hout Htok Hr]
  · isplitr; · iexact Hctx
    isplitl [Hs]; · iexact Hs
    isplitl [Hb]; · iexact Hb
    isplitl [Hcb]; · iexact Hcb
    isplitl [Hout]; · iexact Hout
    isplitl [Htok]; · iexact Htok
    iexact Hr
  iintro ⟨Hs, Hb, Hc⟩
  iapply Hk
  isplitl [Hs Hback]; · iapply Hback; iexact Hs
  isplitr [Hb]
  · isplitl [HT]; · iexact HT
    isplitl [Hc Hat HI]
    · isplitl [Hc Hat]
      · unfold inFl; isplitl [Hc]; · iexact Hc
        iexact Hat
      iexact HI
    isplitl [HD]; · iexact HD
    iexact HF
  iexact Hb

/-- A product as the kernel makes it: after the wait for the one two before, if there is one. -/
theorem Cst_compW (d : Dev nD) (b : Bool) (n : ℕ) (hn : n < nI b) (h r x y : ℕ)
    (hc : 2 * (n + c0 b) + 1 < h ∨ (h ≤ 2 * (n + c0 b) ∧ 2 * (n + c0 b) + 1 < r + 2)) (k : P F) (Q : PUnit → sProp 𝕄) :
    iprop(ctx A B ∗ Dir A b d h r ∗ Cst A B b d n (n - 2) ∗ bPts B d ∗ owesX d (OT x y d))
      ⊢ iprop(((Dir A b d h r ∗ Cst A B b d (n + 1) (n + 1 - 2) ∗ bPts B d ∗ owesX d (OT x y d)) -∗ WP d k Q) -∗ WP d (compW d bM b n hn k) Q) := by
  iintro ⟨#Hctx, HDir, HC, Hb, Ho⟩ Hk
  unfold compW
  by_cases h2 : 2 ≤ n
  · rw [if_pos h2]
    iapply (Cst_wait A B d b n (n - 2) _ (by omega) (by omega) x y) $$ [HC Ho]
    · isplitr; · iexact Hctx
      isplitl [HC]; · iexact HC
      iexact Ho
    iintro ⟨HC, Ho⟩
    rw [show n - 2 + 1 = n + 1 - 2 by omega]
    iapply (Cst_comp A B d b n (n + 1 - 2) hn (by omega) (by omega) h r hc) $$ [HDir HC Hb]
    · isplitr; · iexact Hctx
      isplitl [HDir]; · iexact HDir
      isplitl [HC]; · iexact HC
      iexact Hb
    iintro ⟨HDir, HC, Hb⟩
    iapply Hk
    isplitl [HDir]; · iexact HDir
    isplitl [HC]; · iexact HC
    isplitl [Hb]; · iexact Hb
    iexact Ho
  · rw [if_neg h2, show n - 2 = n + 1 - 2 by omega]
    iapply (Cst_comp A B d b n (n + 1 - 2) hn (by omega) (by omega) h r hc) $$ [HDir HC Hb]
    · isplitr; · iexact Hctx
      isplitl [HDir]; · iexact HDir
      isplitl [HC]; · iexact HC
      iexact Hb
    iintro ⟨HDir, HC, Hb⟩
    iapply Hk
    isplitl [HDir]; · iexact HDir
    isplitl [HC]; · iexact HC
    isplitl [Hb]; · iexact Hb
    iexact Ho

/-! ## A round -/

theorem OT_true (x y : ℕ) (d : Dev nD) (h : x < nH true) :
    OT x y d = OT (x + 1) y d + tallyAt (dcell (peer true d) (rN true x)) () (NH true) := by
  unfold OT; rw [OH_succ true x d h, add_right_comm]
theorem OT_false (x y : ℕ) (d : Dev nD) (h : y < nH false) :
    OT x y d = OT x (y + 1) d + tallyAt (dcell (peer false d) (rN false y)) () (NH false) := by
  unfold OT; rw [OH_succ false y d h, add_assoc]
theorem OT_end (d : Dev nD) : OT 32 30 d = 0 := by
  unfold OT; rw [show (32 : ℕ) = nH true from rfl, show (30 : ℕ) = nH false from rfl, OH_end, OH_end, add_zero]

/-- The left hop of a round, if there is one. -/
theorem Dir_hopL (d : Dev nD) (s r x : ℕ) (hr : s < r + 2) (k : P F) (Q : PUnit → sProp 𝕄) :
    iprop(ctx A B ∗ Dir A false d (min s 30) r ∗ owesX d (OT x (min s 30) d))
      ⊢ iprop(((Dir A false d (min (s + 1) 30) r ∗ owesX d (OT x (min (s + 1) 30) d)) -∗ WP d k Q) -∗ WP d (hopL d s k) Q) := by
  unfold hopL
  by_cases hs : s < nH false
  · have hs' : s < 30 := hs
    rw [dif_pos hs, min_eq_left (by omega), min_eq_left (by omega)]
    exact Dir_hop A B d false s r hs hr _ _ (OT_false x s d hs) k Q
  · have hs' : ¬ s < 30 := hs
    rw [dif_neg hs, min_eq_right (by omega), min_eq_right (by omega)]
    iintro ⟨-, H⟩ Hk
    iapply Hk; iexact H

/-- What a device holds before round `j`. -/
def RS (d : Dev nD) (j : ℕ) : sProp 𝕄 :=
  iprop(Dir A true d (2 * j + 2) (2 * j) ∗ Dir A false d (min (2 * j + 2) 30) (2 * j)
    ∗ Cst A B true d (j + 1) (j + 1 - 2) ∗ Cst A B false d j (j - 2) ∗ bPts B d ∗ owesX d (OT (2 * j + 2) (min (2 * j + 2) 30) d))

theorem wp_round (d : Dev nD) (j : ℕ) (hj : j < 15) (k : P F) (Q : PUnit → sProp 𝕄) :
    iprop(ctx A B ∗ RS A B d j) ⊢ iprop((RS A B d (j + 1) -∗ WP d k Q) -∗ WP d (round d bM j hj k) Q) := by
  iintro ⟨#Hctx, HRS⟩ Hk
  unfold RS
  icases HRS with ⟨HT, HF, HCT, HCF, Hb, Ho⟩
  unfold round
  iapply (Dir_recv A B d true (2 * j + 2) (2 * j) _ le_rfl (2 * j + 2) (min (2 * j + 2) 30) (fun _ => by omega) (fun h => by have h' : min (2 * j + 2) 30 < 30 := h; omega)) $$ [HT Ho]
  · isplitr; · iexact Hctx
    isplitl [HT]; · iexact HT
    iexact Ho
  iintro ⟨HT, Ho⟩
  iapply (Dir_hop A B d true (2 * j + 2) (2 * j + 1) _ (by omega) _ _ (OT_true _ _ d (by have := lt_R hj; omega))) $$ [HT Ho]
  · isplitr; · iexact Hctx
    isplitl [HT]; · iexact HT
    iexact Ho
  iintro ⟨HT, Ho⟩
  iapply (Dir_recv A B d false (min (2 * j + 2) 30) (2 * j) _ (by omega) (2 * j + 2 + 1) (min (2 * j + 2) 30) (fun _ => by omega) (fun h => by have h' : min (2 * j + 2) 30 < 30 := h; omega)) $$ [HF Ho]
  · isplitr; · iexact Hctx
    isplitl [HF]; · iexact HF
    iexact Ho
  iintro ⟨HF, Ho⟩
  iapply (Dir_hopL A B d (2 * j + 2) (2 * j + 1) (2 * j + 2 + 1) (by omega)) $$ [HF Ho]
  · isplitr; · iexact Hctx
    isplitl [HF]; · iexact HF
    iexact Ho
  iintro ⟨HF, Ho⟩
  iapply (Dir_recv A B d true (2 * j + 2 + 1) (2 * j + 1) _ (by omega) (2 * j + 2 + 1) (min (2 * j + 2 + 1) 30) (fun _ => by omega) (fun h => by have h' : min (2 * j + 2 + 1) 30 < 30 := h; omega)) $$ [HT Ho]
  · isplitr; · iexact Hctx
    isplitl [HT]; · iexact HT
    iexact Ho
  iintro ⟨HT, Ho⟩
  iapply (Dir_hop A B d true (2 * j + 3) (2 * j + 1 + 1) _ (by omega) _ _ (OT_true _ _ d (lt_R hj))) $$ [HT Ho]
  · isplitr; · iexact Hctx
    isplitl [HT]; · iexact HT
    iexact Ho
  iintro ⟨HT, Ho⟩
  iapply (Dir_recv A B d false (min (2 * j + 2 + 1) 30) (2 * j + 1) _ (by omega) (2 * j + 3 + 1) (min (2 * j + 2 + 1) 30) (fun _ => by omega) (fun h => by have h' : min (2 * j + 2 + 1) 30 < 30 := h; omega)) $$ [HF Ho]
  · isplitr; · iexact Hctx
    isplitl [HF]; · iexact HF
    iexact Ho
  iintro ⟨HF, Ho⟩
  iapply (Dir_hopL A B d (2 * j + 3) (2 * j + 1 + 1) (2 * j + 3 + 1) (by omega)) $$ [HF Ho]
  · isplitr; · iexact Hctx
    isplitl [HF]; · iexact HF
    iexact Ho
  iintro ⟨HF, Ho⟩
  iapply (Cst_compW A B d true (j + 1) _ (2 * j + 3 + 1) (2 * j + 1 + 1) (2 * j + 3 + 1) (min (2 * j + 3 + 1) 30)
    (.inl (show 2 * (j + 1 + 0) + 1 < 2 * j + 3 + 1 by omega))) $$ [HT HCT Hb Ho]
  · isplitr; · iexact Hctx
    isplitl [HT]; · iexact HT
    isplitl [HCT]; · iexact HCT
    isplitl [Hb]; · iexact Hb
    iexact Ho
  iintro ⟨HT, HCT, Hb, Ho⟩
  iapply (Cst_compW A B d false j _ (min (2 * j + 3 + 1) 30) (2 * j + 1 + 1) (2 * j + 3 + 1) (min (2 * j + 3 + 1) 30)
    (show 2 * (j + 1) + 1 < min (2 * j + 3 + 1) 30 ∨ (min (2 * j + 3 + 1) 30 ≤ 2 * (j + 1) ∧ 2 * (j + 1) + 1 < 2 * j + 1 + 1 + 2) by omega)) $$ [HF HCF Hb Ho]
  · isplitr; · iexact Hctx
    isplitl [HF]; · iexact HF
    isplitl [HCF]; · iexact HCF
    isplitl [Hb]; · iexact Hb
    iexact Ho
  iintro ⟨HF, HCF, Hb, Ho⟩
  iapply Hk
  isplitl [HT]; · iexact HT
  isplitl [HF]; · iexact HF
  isplitl [HCT]; · iexact HCT
  isplitl [HCF]; · iexact HCF
  isplitl [Hb]; · iexact Hb
  iexact Ho

theorem wp_rounds (d : Dev nD) : ∀ (n j : ℕ) (h : j + n = 15) (k : P F) (Q : PUnit → sProp 𝕄),
    iprop(ctx A B ∗ RS A B d j) ⊢ iprop((RS A B d 15 -∗ WP d k Q) -∗ WP d (rounds d bM n j h k) Q)
  | 0, j, h, k, Q => by
    obtain rfl : j = 15 := h
    unfold rounds
    iintro ⟨-, H⟩ Hk
    iapply Hk; iexact H
  | n + 1, j, h, k, Q => by
    iintro ⟨#Hctx, H⟩ Hk
    unfold rounds
    iapply (wp_round A B d j _) $$ [H]
    · isplitr; · iexact Hctx
      iexact H
    iintro H
    iapply (wp_rounds d n (j + 1) _ k Q) $$ [H] Hk
    isplitr; · iexact Hctx
    iexact H

/-! ## The departures -/

/-- A direction with `s` of its departures waited for. -/
def SS (b : Bool) (d : Dev nD) (s : ℕ) : sProp 𝕄 :=
  iprop(bigSep (Finset.Ico s (nH b)) (hopSent b d) ∗ bigSep (Finset.range s) (sentDone A b d))

theorem wp_sents (d : Dev nD) (b : Bool) : ∀ (n s : ℕ) (h : s + n = nH b) (k : P F) (Q : PUnit → sProp 𝕄),
    iprop(ctx A B ∗ SS A b d s ∗ owesX d 0) ⊢ iprop(((SS A b d (nH b) ∗ owesX d 0) -∗ WP d k Q) -∗ WP d (sents b n s h k) Q)
  | 0, s, h, k, Q => by
    obtain rfl : s = nH b := h
    unfold sents
    iintro ⟨-, H⟩ Hk
    iapply Hk; iexact H
  | n + 1, s, h, k, Q => by
    iintro ⟨#Hctx, HS, Ho⟩ Hk
    unfold sents
    ihave HS' := (show SS A b d s ⊢ iprop((hopSent b d s ∗ bigSep (Finset.Ico (s + 1) (nH b)) (hopSent b d)) ∗ bigSep (Finset.range s) (sentDone A b d)) from by
      unfold SS; rw [bigSep_Ico_succ_bot (show s < nH b by omega) (hopSent b d)]) $$ HS
    icases HS' with ⟨⟨Hs, HR⟩, HD⟩
    unfold hopSent
    icases Hs with ⟨Hc, Hat⟩
    iapply (wp_sent A B d b s _) $$ [Hc Ho Hat]
    · isplitr; · iexact Hctx
      isplitl [Hc]; · iexact Hc
      isplitl [Ho]; · iexact Ho
      iexact Hat
    iintro ⟨Ho, Hat, Hl⟩
    iapply (wp_sents d b n (s + 1) _ k Q) $$ [HR HD Ho Hat Hl] Hk
    isplitr; · iexact Hctx
    isplitr [Ho]
    · unfold SS
      rw [bigSep_range_succ s (sentDone A b d)]
      isplitl [HR]; · unfold hopSent; iexact HR
      isplitr [HD]
      · unfold sentDone leftH; isplitl [Hat]; · iexact Hat
        iexact Hl
      iexact HD
    iexact Ho

/-! ## The body -/

/-- A direction before the entry barrier: the rights to its hops and arrivals, and its first slot. -/
def DirPre (b : Bool) (d : Dev nD) : sProp 𝕄 :=
  iprop(bigSep (Finset.Ico 0 (nH b)) (hopTok b d) ∗ bigSep (Finset.Ico 0 (nH b)) (recvTodo b d)
    ∗ ∃ f : Buf (Elt F) ((gat b).view.loc (d : Thread nD τ)), (gat b).view.loc (d : Thread nD τ) ↦[hset b 0 ∪ hset b 1]{fullShare} f)
/-- A direction at the end: every hop arrived and left. -/
def DirEnd (b : Bool) (d : Dev nD) : sProp 𝕄 :=
  iprop(bigSep (Finset.range (nH b)) (sentDone A b d) ∗ bigSep (Finset.range (nH b)) (recvDone b d)
    ∗ bigSep (Finset.range (nH b)) (rightH A b d) ∗ bigSep (Finset.Ico (nH b) (nH b + 2)) (fullH A b d))
/-- A direction's products at the end: all in the result, both product buffers free. -/
def CEnd (b : Bool) (d : Dev nD) : sProp 𝕄 :=
  iprop(bigSep (Finset.range (nI b)) (outDone A B b d) ∗ slotFree b d (nI b) ∗ slotFree b d (nI b + 1))

/-- What a device starts the body with. -/
def bodyP (d : Dev nD) : sProp 𝕄 :=
  iprop(aPts A d ∗ bPts B d ∗ owesX d (O₀ d)
    ∗ (dutyTok ER (bcell (peer false d)) 0 true ∗ barPay (peer false d) true)
    ∗ (dutyTok ER (bcell (peer true d)) 0 false ∗ barPay (peer true d) false)
    ∗ (cred (tallyAt (bcell d) () 2) ∗ atPos ER (bcell d) 0 ∅ 0)
    ∗ DirPre true d ∗ DirPre false d ∗ Cst A B true d 0 0 ∗ Cst A B false d 0 0)
/-- What it ends it with. -/
def bodyQ (d : Dev nD) : sProp 𝕄 :=
  iprop(aPts A d ∗ bPts B d ∗ owesX d 0 ∗ atPos ER (bcell d) 1 ∅ 0 ∗ DirEnd A true d ∗ DirEnd A false d ∗ CEnd A B true d ∗ CEnd A B false d)

/-- Past the barrier, the rights to the hops join the neighbour's half blocks they land in; the first slot is filled. -/
theorem Dir_start (b : Bool) (d : Dev nD) :
    iprop(bigSep (Finset.Ico 0 (nH b)) (hopTok b d) ∗ barPay d b ∗ bigSep (Finset.Ico 0 (nH b)) (recvTodo b d)
        ∗ ((gat b).view.loc (d : Thread nD τ) ↦[hset b 0 ∪ hset b 1]{fullShare} (GV A b d)))
      ⊢ Dir A b d 0 0 := by
  unfold Dir barPay
  rw [Finset.range_zero, bigSep_empty, bigSep_empty, bigSep_empty, ← Nat.Ico_zero_eq_range,
    bigSep_Ico_succ_bot (show 0 < 0 + 2 by omega) (fullH A b d), bigSep_Ico_one]
  iintro ⟨Ht, Hl, Hr, Hs⟩
  isplitl [Ht Hl]
  · unfold hopTodo land
    rw [bigSep_sep']
    isplitl [Ht]; · iexact Ht
    iexact Hl
  isplitr; · iempintro
  isplitl [Hr]; · iexact Hr
  isplitr; · iempintro
  isplitr; · iempintro
  unfold fullH
  iapply (slot_halves A b d 0 fullShare).1
  unfold slotPts
  iexact Hs

/-- All hops made and all arrivals in: the departures are left to wait for. -/
theorem Dir_finish (b : Bool) (d : Dev nD) :
    Dir A b d (nH b) (nH b) ⊢ iprop(SS A b d 0 ∗ bigSep (Finset.range (nH b)) (recvDone b d)
      ∗ bigSep (Finset.range (nH b)) (rightH A b d) ∗ bigSep (Finset.Ico (nH b) (nH b + 2)) (fullH A b d)) := by
  unfold Dir SS
  rw [Finset.range_zero, bigSep_empty, Nat.Ico_zero_eq_range]
  iintro ⟨-, HS, -, HD, Hr, Hf⟩
  isplitl [HS]
  · isplitl [HS]; · iexact HS
    iempintro
  isplitl [HD]; · iexact HD
  isplitl [Hr]; · iexact Hr
  iexact Hf

/-- All products made, two still on their way. -/
theorem Cst_finish (b : Bool) (d : Dev nD) (w : ℕ) (hw : w + 2 = nI b) :
    Cst A B b d (nI b) w ⊢ iprop(inFl b d w ∗ inFl b d (w + 1) ∗ bigSep (Finset.range w) (outDone A B b d)) := by
  unfold Cst
  rw [← hw, bigSep_Ico_succ_bot (show w < w + 2 by omega) (inFl b d), bigSep_Ico_one]
  iintro ⟨-, ⟨H1, H2⟩, H3, -⟩
  isplitl [H1]; · iexact H1
  isplitl [H2]; · iexact H2
  iexact H3
theorem CEnd_intro (b : Bool) (d : Dev nD) (w : ℕ) (hw : w + 2 = nI b) :
    iprop(outDone A B b d w ∗ outDone A B b d (w + 1) ∗ bigSep (Finset.range w) (outDone A B b d)
        ∗ slotFree b d (w + 2) ∗ slotFree b d (w + 1 + 2)) ⊢ CEnd A B b d := by
  unfold CEnd
  rw [← hw, bigSep_range_succ (w + 1) (outDone A B b d), bigSep_range_succ w (outDone A B b d)]
  iintro ⟨H1, H2, H3, H4, H5⟩
  isplitl [H1 H2 H3]
  · isplitl [H2]; · iexact H2
    isplitl [H1]; · iexact H1
    iexact H3
  isplitl [H4]; · iexact H4
  iexact H5

end

end Cert.KernelIdeal.Hop

end
-- ==== Proof.Body.lean ====
/- The kernel's body on one device: the entry barrier, the two first slots, the fifteen rounds, and the last waits. -/
module

public import proofs.«01_k».proof.Proof.State

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S768x384 .f32) (B : Dev nD → Vec F S384x768 .f32)

/-- The entry barrier: a unit to each neighbour, with the device's own landing half blocks; two units back, with the neighbours'. -/
theorem wp_entry (d : Dev nD) (k : P F) (Q : PUnit → sProp 𝕄) :
    iprop(ctx A B ∗ owesX d (O₀ d)
        ∗ (dutyTok ER (bcell (peer false d)) 0 true ∗ barPay (peer false d) true)
        ∗ (dutyTok ER (bcell (peer true d)) 0 false ∗ barPay (peer true d) false)
        ∗ cred (tallyAt (bcell d) () 2) ∗ atPos ER (bcell d) 0 ∅ 0)
      ⊢ iprop(((owesX d (OT 0 0 d) ∗ atPos ER (bcell d) 1 ∅ 0 ∗ barPay d true ∗ barPay d false) -∗ WP d k Q)
        -∗ WP d (semSignalWord (peer false d) barS 1#32 >>= fun _ => semSignalWord (peer true d) barS 1#32 >>= fun _ => semWaitWord barS 2#32 >>= fun _ => k) Q) := by
  simp only [semSignalWord, semWaitWord, Prog.lift, Prog.bind_op, Prog.bind_ret, Prog.pure_eq_ret, Prog.bind_assoc]
  unfold owesX
  iintro ⟨#Hctx, ⟨%W, HO⟩, ⟨Ht, Hp⟩, ⟨Ht', Hp'⟩, Hc, Hat⟩ Hk
  ihave H1 := (ctx_bar A B (peer false d)) $$ Hctx
  ihave H2 := (ctx_bar A B (peer true d)) $$ Hctx
  ihave H3 := (ctx_bar A B d) $$ Hctx
  icases H1 with ⟨⟨%κ₁, #HI1⟩, #Hr1⟩
  icases H2 with ⟨⟨%κ₂, #HI2⟩, #Hr2⟩
  icases H3 with ⟨⟨%κ₃, #HI3⟩, -⟩
  iapply (Rounds.wp_signal 𝒱₀ ER (Rd A B) (d : Thread nD τ) none (dst := (peer false d : Thread nD τ)) (κ := κ₁)
      (d := true) (by rw [duties_bar]; exact Finset.mem_univ _) ((amount_bar A B (peer false d) 0 true).trans (by decide)) () (O₁ d) rfl) $$ [HO Ht Hp]
  · isplitr; · iexact HI1
    isplitl [HO]; · iexact HO
    isplitl [Ht]; · iexact Ht
    isplitl [Hp]; · rw [payload_bar]; iexact Hp
    iexact Hr1
  iintro HO
  iapply (Rounds.wp_signal 𝒱₀ ER (Rd A B) (d : Thread nD τ) none (dst := (peer true d : Thread nD τ)) (κ := κ₂)
      (d := false) (by rw [duties_bar]; exact Finset.mem_univ _) ((amount_bar A B (peer true d) 0 false).trans (by decide)) () (OT 0 0 d) rfl) $$ [HO Ht' Hp']
  · isplitr; · iexact HI2
    isplitl [HO]; · iexact HO
    isplitl [Ht']; · iexact Ht'
    isplitl [Hp']; · rw [payload_bar]; iexact Hp'
    iexact Hr2
  iintro HO
  iapply (Rounds.wp_wait_rest_token 𝒱₀ ER (Rd A B) (d : Thread nD τ) none (κ := κ₃)
      (wpE_semWait_eq 𝒱₀ (d : Thread nD τ) none Set.univ) (Set.mem_univ _) () (O := OT 0 0 d) (W := W) (R := 0) (m := 0) (T := ∅)
      (by rw [expect_bar]; decide)) $$ [Hc HO Hat]
  · isplitr; · iexact HI3
    isplitl [Hc]; · iexact Hc
    isplitl [HO]; · iexact HO
    isplitr
    · iapply (ctx_mayWait A B d (.reg barS) 1 0 0 (by rw [use_bar]; exact le_rfl) (fun _ => by omega) (fun _ => by omega)); iexact Hctx
    iexact Hat
  iintro ⟨HO, Hat, -, Hpay⟩
  ihave Hp := (Entails.of_eq (rest_bar A B d)) $$ Hpay
  iapply Hk
  isplitl [HO]; · iexists _; iexact HO
  isplitl [Hat]; · iexact Hat
  iexact Hp

/-- The last four waits for products. -/
theorem wp_tail (d : Dev nD) (Q : PUnit → sProp 𝕄) :
    iprop(ctx A B ∗ Cst A B true d 17 15 ∗ Cst A B false d 15 13 ∗ owesX d 0)
      ⊢ iprop(((CEnd A B true d ∗ CEnd A B false d ∗ owesX d 0) -∗ |={Set.univ}=> Q ⟨⟩)
        -∗ WP d (waitOut d true ⟨16, by decide⟩ <| waitOut d false ⟨13, by decide⟩ <| waitOut d true ⟨15, by decide⟩ <| waitOut d false ⟨14, by decide⟩ <|
          pure ⟨⟩) Q) := by
  rw [← OT_end d]
  iintro ⟨#Hctx, HT, HF, Ho⟩ Hk
  ihave HT := (show Cst A B true d 17 15 ⊢ _ from Cst_finish A B true d 15 rfl) $$ HT
  ihave HF := (show Cst A B false d 15 13 ⊢ _ from Cst_finish A B false d 13 rfl) $$ HF
  icases HT with ⟨HT1, HT2, HT⟩
  icases HF with ⟨HF1, HF2, HF⟩
  iapply (item_wait A B d true ⟨16, _⟩ 32 30) $$ [HT2 Ho]
  · isplitr; · iexact Hctx
    isplitl [HT2]; · iexact HT2
    iexact Ho
  iintro ⟨HT2, HTs2, Ho⟩
  iapply (item_wait A B d false ⟨13, _⟩ 32 30) $$ [HF1 Ho]
  · isplitr; · iexact Hctx
    isplitl [HF1]; · iexact HF1
    iexact Ho
  iintro ⟨HF1, HFs1, Ho⟩
  iapply (item_wait A B d true ⟨15, _⟩ 32 30) $$ [HT1 Ho]
  · isplitr; · iexact Hctx
    isplitl [HT1]; · iexact HT1
    iexact Ho
  iintro ⟨HT1, HTs1, Ho⟩
  iapply (item_wait A B d false ⟨14, _⟩ 32 30) $$ [HF2 Ho]
  · isplitr; · iexact Hctx
    isplitl [HF2]; · iexact HF2
    iexact Ho
  iintro ⟨HF2, HFs2, Ho⟩
  rw [Prog.pure_eq_ret]
  unfold WP
  rw [wp_ret]
  iapply Hk
  isplitl [HT1 HT2 HTs1 HTs2 HT]
  · iapply (CEnd_intro A B true d 15 rfl)
    isplitl [HT1]; · iexact HT1
    isplitl [HT2]; · iexact HT2
    isplitl [HT]; · iexact HT
    isplitl [HTs1]; · iexact HTs1
    iexact HTs2
  isplitl [HF1 HF2 HFs1 HFs2 HF]
  · iapply (CEnd_intro A B false d 13 rfl)
    isplitl [HF1]; · iexact HF1
    isplitl [HF2]; · iexact HF2
    isplitl [HF]; · iexact HF
    isplitl [HFs1]; · iexact HFs1
    iexact HFs2
  iexact Ho

/-- The opening: both first slots filled, their four hops and the device's own product. -/
theorem wp_open (d : Dev nD) (k : P F) (Q : PUnit → sProp 𝕄) :
    iprop(ctx A B ∗ aPts A d ∗ bPts B d ∗ owesX d (OT 0 0 d) ∗ (DirPre true d ∗ barPay d true) ∗ (DirPre false d ∗ barPay d false)
        ∗ Cst A B true d 0 0 ∗ Cst A B false d 0 0)
      ⊢ iprop(((aPts A d ∗ RS A B d 0) -∗ WP d k Q)
        -∗ WP d (initSlot aM true <| initSlot aM false <| hop d true 0 (by decide) <| hop d false 0 (by decide) <| hop d true 1 (by decide) <|
          hop d false 1 (by decide) <| compW d bM true 0 (by decide) k) Q) := by
  iintro ⟨#Hctx, Ha, Hb, Ho, ⟨HT, HbT⟩, ⟨HF, HbF⟩, HCT, HCF⟩ Hk
  unfold DirPre
  icases HT with ⟨HTt, HTr, HTs⟩
  icases HF with ⟨HFt, HFr, HFs⟩
  iapply (wp_initSlot A d true) $$ [Ha HTs]
  · isplitl [Ha]; · iexact Ha
    iexact HTs
  iintro ⟨Ha, HTs⟩
  iapply (wp_initSlot A d false) $$ [Ha HFs]
  · isplitl [Ha]; · iexact Ha
    iexact HFs
  iintro ⟨Ha, HFs⟩
  ihave HT := (Dir_start A true d) $$ [HTt HbT HTr HTs]
  · isplitl [HTt]; · iexact HTt
    isplitl [HbT]; · iexact HbT
    isplitl [HTr]; · iexact HTr
    iexact HTs
  ihave HF := (Dir_start A false d) $$ [HFt HbF HFr HFs]
  · isplitl [HFt]; · iexact HFt
    isplitl [HbF]; · iexact HbF
    isplitl [HFr]; · iexact HFr
    iexact HFs
  iapply (Dir_hop A B d true 0 0 _ (by omega) _ _ (OT_true 0 0 d (by decide))) $$ [HT Ho]
  · isplitr; · iexact Hctx
    isplitl [HT]; · iexact HT
    iexact Ho
  iintro ⟨HT, Ho⟩
  iapply (Dir_hop A B d false 0 0 _ (by omega) _ _ (OT_false (0 + 1) 0 d (by decide))) $$ [HF Ho]
  · isplitr; · iexact Hctx
    isplitl [HF]; · iexact HF
    iexact Ho
  iintro ⟨HF, Ho⟩
  iapply (Dir_hop A B d true 1 0 _ (by omega) _ _ (OT_true 1 (0 + 1) d (by decide))) $$ [HT Ho]
  · isplitr; · iexact Hctx
    isplitl [HT]; · iexact HT
    iexact Ho
  iintro ⟨HT, Ho⟩
  iapply (Dir_hop A B d false 1 0 _ (by omega) _ _ (OT_false (1 + 1) 1 d (by decide))) $$ [HF Ho]
  · isplitr; · iexact Hctx
    isplitl [HF]; · iexact HF
    iexact Ho
  iintro ⟨HF, Ho⟩
  iapply (Cst_compW A B d true 0 _ (1 + 1) 0 (1 + 1) (1 + 1) (.inl (by decide))) $$ [HT HCT Hb Ho]
  · isplitr; · iexact Hctx
    isplitl [HT]; · iexact HT
    isplitl [HCT]; · iexact HCT
    isplitl [Hb]; · iexact Hb
    iexact Ho
  iintro ⟨HT, HCT, Hb, Ho⟩
  iapply Hk
  isplitl [Ha]; · iexact Ha
  unfold RS
  isplitl [HT]; · iexact HT
  isplitl [HF]; · iexact HF
  isplitl [HCT]; · iexact HCT
  isplitl [HCF]; · iexact HCF
  isplitl [Hb]; · iexact Hb
  iexact Ho

/-- The closing: the last two arrivals, the last product, all departures, the last four waits. -/
theorem wp_close (d : Dev nD) (Q : PUnit → sProp 𝕄) :
    iprop(ctx A B ∗ RS A B d 15)
      ⊢ iprop(((bPts B d ∗ owesX d 0 ∗ DirEnd A true d ∗ DirEnd A false d ∗ CEnd A B true d ∗ CEnd A B false d) -∗ |={Set.univ}=> Q ⟨⟩)
        -∗ WP d (recv true 30 (by decide) <| recv true 31 (by decide) <| compW d bM true 16 (by decide) <| sents true 32 0 rfl <| sents false 30 0 rfl <|
          waitOut d true ⟨16, by decide⟩ <| waitOut d false ⟨13, by decide⟩ <| waitOut d true ⟨15, by decide⟩ <| waitOut d false ⟨14, by decide⟩ <|
          pure ⟨⟩) Q) := by
  iintro ⟨#Hctx, HRS⟩ Hk
  unfold RS
  icases HRS with ⟨HT, HF, HCT, HCF, Hb, Ho⟩
  iapply (Dir_recv A B d true 32 30 _ (by omega) 32 30 (fun _ => by omega) (fun h => absurd h (by decide))) $$ [HT Ho]
  · isplitr; · iexact Hctx
    isplitl [HT]; · iexact HT
    iexact Ho
  iintro ⟨HT, Ho⟩
  iapply (Dir_recv A B d true 32 31 _ (by omega) 32 30 (fun _ => by omega) (fun h => absurd h (by decide))) $$ [HT Ho]
  · isplitr; · iexact Hctx
    isplitl [HT]; · iexact HT
    iexact Ho
  iintro ⟨HT, Ho⟩
  iapply (Cst_compW A B d true 16 _ 32 32 32 30 (.inr (by decide))) $$ [HT HCT Hb Ho]
  · isplitr; · iexact Hctx
    isplitl [HT]; · iexact HT
    isplitl [HCT]; · iexact HCT
    isplitl [Hb]; · iexact Hb
    iexact Ho
  iintro ⟨HT, HCT, Hb, Ho⟩
  rw [OT_end d]
  ihave HT := (show Dir A true d 32 32 ⊢ _ from Dir_finish A true d) $$ HT
  ihave HF := (show Dir A false d (min (2 * 15 + 2) 30) (2 * 15) ⊢ _ from Dir_finish A false d) $$ HF
  icases HT with ⟨HTS, HT⟩
  icases HF with ⟨HFS, HF⟩
  iapply (wp_sents A B d true 32 0 rfl) $$ [HTS Ho]
  · isplitr; · iexact Hctx
    isplitl [HTS]; · iexact HTS
    iexact Ho
  iintro ⟨HTS, Ho⟩
  iapply (wp_sents A B d false 30 0 rfl) $$ [HFS Ho]
  · isplitr; · iexact Hctx
    isplitl [HFS]; · iexact HFS
    iexact Ho
  iintro ⟨HFS, Ho⟩
  iapply (wp_tail A B d Q) $$ [HCT HCF Ho]
  · isplitr; · iexact Hctx
    isplitl [HCT]; · iexact HCT
    isplitl [HCF]; · iexact HCF
    iexact Ho
  iintro ⟨HCT, HCF, Ho⟩
  iapply Hk
  isplitl [Hb]; · iexact Hb
  isplitl [Ho]; · iexact Ho
  unfold DirEnd SS
  icases HTS with ⟨-, HTS⟩
  icases HFS with ⟨-, HFS⟩
  isplitl [HTS HT]
  · isplitl [HTS]; · iexact HTS
    iexact HT
  isplitl [HFS HF]
  · isplitl [HFS]; · iexact HFS
    iexact HF
  isplitl [HCT]; · iexact HCT
  iexact HCF

/-- The whole body, from what a device starts with to what it ends with. -/
theorem wp_body (d : Dev nD) (Q : PUnit → sProp 𝕄) :
    iprop(ctx A B ∗ bodyP A B d) ⊢ iprop((bodyQ A B d -∗ |={Set.univ}=> Q ⟨⟩) -∗ WP d (bodyAt d aM bM) Q) := by
  unfold bodyP bodyQ bodyAt
  iintro ⟨#Hctx, Ha, Hb, Ho, Hs, Hs', ⟨Hc, Hat⟩, HT, HF, HCT, HCF⟩ Hk
  iapply (wp_entry A B d) $$ [Ho Hs Hs' Hc Hat]
  · isplitr; · iexact Hctx
    isplitl [Ho]; · iexact Ho
    isplitl [Hs]; · iexact Hs
    isplitl [Hs']; · iexact Hs'
    isplitl [Hc]; · iexact Hc
    iexact Hat
  iintro ⟨Ho, Hat, HbT, HbF⟩
  iapply (wp_open A B d) $$ [Ha Hb Ho HT HbT HF HbF HCT HCF]
  · isplitr; · iexact Hctx
    isplitl [Ha]; · iexact Ha
    isplitl [Hb]; · iexact Hb
    isplitl [Ho]; · iexact Ho
    isplitl [HT HbT]
    · isplitl [HT]; · iexact HT
      iexact HbT
    isplitl [HF HbF]
    · isplitl [HF]; · iexact HF
      iexact HbF
    isplitl [HCT]; · iexact HCT
    iexact HCF
  iintro ⟨Ha, HRS⟩
  iapply (wp_rounds A B d 15 0 rfl) $$ [HRS]
  · isplitr; · iexact Hctx
    iexact HRS
  iintro HRS
  iapply (wp_close A B d Q) $$ [HRS]
  · isplitr; · iexact Hctx
    iexact HRS
  iintro ⟨Hb, Ho, H1, H2, H3, H4⟩
  iapply Hk
  isplitl [Ha]; · iexact Ha
  isplitl [Hb]; · iexact Hb
  isplitl [Ho]; · iexact Ho
  isplitl [Hat]; · iexact Hat
  isplitl [H1]; · iexact H1
  isplitl [H2]; · iexact H2
  isplitl [H3]; · iexact H3
  iexact H4

end Cert.KernelIdeal.Hop

end
-- ==== Proof.Deal.lean ====
/- What the launch deals each device: the cells' invariants, the duty tokens of the copies and signals it makes,
   and the credits of the arrivals it waits for. -/
module

public import proofs.«01_k».proof.Proof.Body
public import proofs.«01_k».proof.Proof.Gen.KernelIdeal.Launch
public import Idealize.ShloMosaic.Lib.Ring

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the semaphores -/

/-- A family over `Fin n` is the family over the numbers below `n`. -/
theorem fin_range (n : ℕ) (Φ : ℕ → sProp 𝕄) : (bigSep Finset.univ fun k : Fin n => Φ k.val) = bigSep (Finset.range n) Φ := by
  rw [show Finset.range n = (Finset.univ : Finset (Fin n)).map Fin.valEmbedding from by
    ext x; simp only [Finset.mem_range, Finset.mem_map, Finset.mem_univ, true_and, Fin.valEmbedding_apply]
    exact ⟨fun h => ⟨⟨x, h⟩, rfl⟩, fun ⟨y, hy⟩ => hy ▸ y.isLt⟩, bigSep_map]
  rfl
/-- A family over a stretch is the families over its two parts. -/
theorem ico_cut (Φ : ℕ → sProp 𝕄) {a b c : ℕ} (h₁ : a ≤ b) (h₂ : b ≤ c) :
    bigSep (Finset.Ico a c) Φ = iprop(bigSep (Finset.Ico a b) Φ ∗ bigSep (Finset.Ico b c) Φ) := by
  rw [← Finset.Ico_union_Ico_eq_Ico h₁ h₂]
  exact BI.bigSep_union (Finset.Ico_disjoint_Ico_consecutive a b c)
/-- A family over a stretch of numbers, counted from its start. -/
theorem seg (Φ : ℕ → sProp 𝕄) (a n : ℕ) : bigSep (Finset.Ico a (a + n)) Φ = bigSep (Finset.range n) fun s => Φ (a + s) := by
  rw [show Finset.Ico a (a + n) = (Finset.range n).map (addLeftEmbedding a) from by
    ext x; simp only [Finset.mem_Ico, Finset.mem_map, Finset.mem_range, addLeftEmbedding_apply]
    exact ⟨fun h => ⟨x - a, by omega, by omega⟩, fun ⟨y, h₁, h₂⟩ => by omega⟩, bigSep_map]
  rfl
/-- A family over the copy semaphores, by what each is for. -/
theorem dma_split (Φ : ℕ → sProp 𝕄) :
    (bigSep Finset.univ fun k : Fin 128 => Φ (k.val + 2))
      = iprop(bigSep (Finset.range (nH true)) (fun s => Φ (sN true s)) ∗ bigSep (Finset.range (nH true)) (fun s => Φ (rN true s))
        ∗ bigSep (Finset.range (nH false)) (fun s => Φ (sN false s)) ∗ bigSep (Finset.range (nH false)) (fun s => Φ (rN false s))
        ∗ Φ 126 ∗ Φ 127 ∗ Φ 128 ∗ Φ 129) := by
  rw [fin_range 128 (fun n => Φ (n + 2)), bigSep_congr (s := Finset.range 128) (Ψ := fun n => Φ (2 + n)) (fun n _ => by rw [Nat.add_comm]), ← seg Φ 2 128,
    ico_cut Φ (show 2 ≤ 2 + 32 by omega) (show 2 + 32 ≤ 2 + 128 by omega),
    ico_cut Φ (show 2 + 32 ≤ 34 + 32 by omega) (show 34 + 32 ≤ 2 + 128 by omega),
    ico_cut Φ (show 34 + 32 ≤ 66 + 30 by omega) (show 66 + 30 ≤ 2 + 128 by omega),
    ico_cut Φ (show 66 + 30 ≤ 96 + 30 by omega) (show 96 + 30 ≤ 2 + 128 by omega)]
  have e1 : bigSep (Finset.Ico 2 (2 + 32)) Φ = bigSep (Finset.range (nH true)) (fun s => Φ (sN true s)) := seg Φ 2 32
  have e2 : bigSep (Finset.Ico (2 + 32) (34 + 32)) Φ = bigSep (Finset.range (nH true)) (fun s => Φ (rN true s)) := seg Φ 34 32
  have e3 : bigSep (Finset.Ico (34 + 32) (66 + 30)) Φ = bigSep (Finset.range (nH false)) (fun s => Φ (sN false s)) := seg Φ 66 30
  have e4 : bigSep (Finset.Ico (66 + 30) (96 + 30)) Φ = bigSep (Finset.range (nH false)) (fun s => Φ (rN false s)) := seg Φ 96 30
  have e5 : bigSep (Finset.Ico (96 + 30) (2 + 128)) Φ = iprop(Φ 126 ∗ Φ 127 ∗ Φ 128 ∗ Φ 129) := by
    rw [bigSep_Ico_succ_bot (show 96 + 30 < 2 + 128 by omega), bigSep_Ico_succ_bot (show 96 + 30 + 1 < 2 + 128 by omega),
      bigSep_Ico_succ_bot (show 96 + 30 + 1 + 1 < 2 + 128 by omega), bigSep_Ico_one]
  rw [e1, e2, e3, e4, e5]

/-- A family over the barrier and the copy semaphores. -/
theorem opt_split (Φ : Option (Fin 128) → sProp 𝕄) : bigSep Finset.univ Φ = iprop(Φ none ∗ bigSep Finset.univ fun k : Fin 128 => Φ (some k)) := by
  rw [bigSep_univ_at Φ none, show (Finset.univ.erase none : Finset (Option (Fin 128))) = Finset.univ.map Function.Embedding.some from by
    ext x; cases x <;> simp, bigSep_map]
  rfl

/-! ## The launch element -/

/-- A device's protocol semaphores: the barrier, and the copy semaphores from number 2 on. -/
def osem (k : Fin 128) : SemLoc sig := .dma (dmaN (k.val + 2))

theorem kcell_injective : Function.Injective kcell := by
  rintro ⟨d, k⟩ ⟨d', k'⟩ h
  cases k with
  | none =>
    cases k' with
    | none =>
      obtain rfl : d = d' := congrArg (fun g : GSem nD τ sig => g.1.1) h
      rfl
    | some k' => exact absurd (congrArg (fun g : GSem nD τ sig => g.2) h) (by intro h; cases h)
  | some k =>
    cases k' with
    | none => exact absurd (congrArg (fun g : GSem nD τ sig => g.2) h) (by intro h; cases h)
    | some k' =>
      obtain ⟨h1, h2⟩ := dcell_inj (show k.val + 2 < 130 by omega) (show k'.val + 2 < 130 by omega) h
      obtain rfl : k = k' := Fin.ext (by omega)
      obtain rfl : d = d' := h1
      rfl
/-- The protocol's cells of all devices. -/
def hopCells : Finset (GSem nD τ sig) := Finset.univ.map ⟨kcell, kcell_injective⟩
/-- Their duties: nine rounds of two are enough for every cell. -/
def tokOf (x : (Dev nD × Option (Fin 128)) × (Fin 9 × Bool)) : GSem nD τ sig × ℕ × Bool := (kcell x.1, x.2.1.val, x.2.2)
theorem tokOf_injective : Function.Injective tokOf := by
  rintro ⟨x, r, t⟩ ⟨x', r', t'⟩ h
  have h1 : kcell x = kcell x' := congrArg (fun y : GSem nD τ sig × ℕ × Bool => y.1) h
  have h2 : r.val = r'.val := congrArg (fun y : GSem nD τ sig × ℕ × Bool => y.2.1) h
  have h3 : t = t' := congrArg (fun y : GSem nD τ sig × ℕ × Bool => y.2.2) h
  rw [kcell_injective h1, Fin.ext h2, h3]
def hopToks : Finset (GSem nD τ sig × ℕ × Bool) := Finset.univ.map ⟨tokOf, tokOf_injective⟩

/-- The launch element: the staging pipeline's and the protocol's. -/
def u₀ : UU := (initOf (Pipeline.cells cfgs cellOf_inj) (Pipeline.launchToks cfgs cellOf_inj), initOf hopCells hopToks)

/-- All tokens of a device's own cells. -/
def toks (d : Dev nD) : sProp 𝕄 :=
  bigSep Finset.univ fun k : Option (Fin 128) => bigSep Finset.univ fun r : Fin 9 × Bool => dutyTok ER (kcell (d, k)) r.1.val r.2

section

variable (A : Dev nD → Vec F S768x384 .f32) (B : Dev nD → Vec F S384x768 .f32)

/-- What the launch element deals device `d`. -/
def G (d : Dev nD) : sProp 𝕄 :=
  iprop((bigSep Finset.univ fun k : Option (Fin 128) => roundState ER (Rd A B) (kcell (d, k)) 0)
    ∗ ((bigSep Finset.univ fun k : Option (Fin 128) => atPos ER (kcell (d, k)) 0 ∅ 0) ∗ bigSep Finset.univ fun k : Option (Fin 128) => reached ER (kcell (d, k)) 0)
    ∗ toks d)

theorem fund_hop : BI.own (ER (initOf hopCells hopToks)) ⊢ (|==> bigSep Finset.univ (G A B) : sProp 𝕄) := by
  have hX (Φ : GSem nD τ sig → sProp 𝕄) : bigSep hopCells Φ = bigSep Finset.univ fun c : Dev nD => bigSep Finset.univ fun k : Option (Fin 128) => Φ (kcell (c, k)) := by
    unfold hopCells; rw [bigSep_map, bigSep_univ_prod]; rfl
  have hT : bigSep hopToks (fun x => (dutyTok ER x.1 x.2.1 x.2.2 : sProp 𝕄)) = bigSep Finset.univ fun c : Dev nD => toks c := by
    unfold hopToks toks; rw [bigSep_map, bigSep_univ_prod, bigSep_univ_prod]; rfl
  iintro HX
  imod (Rounds.fund ER (Rd A B) hopCells hopToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (d : Dev nD) :
    iprop(Pipeline.ownSems0 (Ix := Unit) (Name := ℕ) (U := UU) (Lvl := ℕ) (Val := Elt F) (τ := τ) osem d ∗ unscopedSems0 d)
      ⊢ (bigSep Finset.univ fun k : Option (Fin 128) => semVal (kcell (d, k)) 0 : sProp 𝕄) := by
  have hu : (unscopedSems0 d : sProp 𝕄) = semVal (bcell d) 0 := by
    unfold unscopedSems0; rw [bigSep_eq_bigSepL_of_eq [SemLoc.reg barS] (by decide) (by decide)]; rfl
  rw [opt_split, hu]
  show _ ⊢ iprop(semVal (bcell d) 0 ∗ Pipeline.ownSems0 osem d)
  iintro ⟨HO, HB⟩
  isplitl [HB]; · iexact HB
  iexact HO

/-- The tokens of a device's hops' departures, of its own arrivals, and of its products. -/
def sendT (b : Bool) (d : Dev nD) : sProp 𝕄 := bigSep (Finset.range (nH b)) fun s => dutyTok ER (dcell d (sN b s)) 0 false
def recvT (b : Bool) (d : Dev nD) : sProp 𝕄 := bigSep (Finset.range (nH b)) fun s => dutyTok ER (dcell d (rN b s)) 0 false
def outT (b : Bool) (d : Dev nD) : sProp 𝕄 := bigSep (Finset.range (nI b)) fun i => dutyTok ER (ocell d b i) (i / 2) false

/-- The tokens of the duties on a device's own cells; -/
def ownToks (d : Dev nD) : sProp 𝕄 :=
  iprop(dutyTok ER (bcell d) 0 true ∗ dutyTok ER (bcell d) 0 false ∗ sendT true d ∗ recvT true d ∗ sendT false d ∗ recvT false d ∗ outT true d ∗ outT false d)
/-- the tokens of the duties the device itself pays. -/
def payToks (d : Dev nD) : sProp 𝕄 :=
  iprop(dutyTok ER (bcell (peer false d)) 0 true ∗ dutyTok ER (bcell (peer true d)) 0 false
    ∗ sendT true d ∗ recvT true (peer true d) ∗ sendT false d ∗ recvT false (peer false d) ∗ outT true d ∗ outT false d)

theorem tok_one (g : GSem nD τ sig) : (bigSep Finset.univ fun r : Fin 9 × Bool => (dutyTok ER g r.1.val r.2 : sProp 𝕄)) ⊢ dutyTok ER g 0 false :=
  bigSep_elim (Finset.mem_univ ((0 : Fin 9), false))
theorem tok_two (g : GSem nD τ sig) :
    (bigSep Finset.univ fun r : Fin 9 × Bool => (dutyTok ER g r.1.val r.2 : sProp 𝕄)) ⊢ iprop(dutyTok ER g 0 true ∗ dutyTok ER g 0 false) := by
  rw [bigSep_univ_prod, bigSep_univ_at _ (0 : Fin 9), bigSep_univ_eq_bigSepL [true, false] (by decide) (by decide), bigSepL_cons_cons, bigSepL_singleton]
  show iprop((dutyTok ER g 0 true ∗ dutyTok ER g 0 false) ∗ _) ⊢ _
  iintro ⟨H, -⟩
  iexact H
theorem tok_nine (g : GSem nD τ sig) :
    (bigSep Finset.univ fun r : Fin 9 × Bool => (dutyTok ER g r.1.val r.2 : sProp 𝕄)) ⊢ bigSep (Finset.range 9) fun r => dutyTok ER g r false := by
  rw [bigSep_univ_prod, ← fin_range 9 (fun r => dutyTok ER g r false)]
  exact bigSep_mono fun r _ => bigSep_elim (Finset.mem_univ false)

/-- A direction's products' tokens out of its two product buffers' cells'. -/
theorem tok_out (b : Bool) (d : Dev nD) :
    iprop(bigSep (Finset.range 9) (fun r => (dutyTok ER (ocell d b 0) r false : sProp 𝕄)) ∗ bigSep (Finset.range 9) (fun r => dutyTok ER (ocell d b 1) r false))
      ⊢ outT b d := by
  have h := Ring.bigSep_range_deinterleave 9 (fun i => (dutyTok ER (ocell d b i) (i / 2) false : sProp 𝕄))
  have e0 (k : ℕ) : qOf b (2 * k) = qOf b 0 := by
    induction k with
    | zero => rfl
    | succ k ih => rw [Nat.mul_succ, qOf_two, ih]
  have e1 (k : ℕ) : qOf b (2 * k + 1) = qOf b 1 := by
    induction k with
    | zero => rfl
    | succ k ih => rw [Nat.mul_succ, Nat.add_right_comm, qOf_two, ih]
  rw [bigSep_congr (s := Finset.range 9) (Ψ := fun k => (dutyTok ER (ocell d b 0) k false : sProp 𝕄)) (fun k _ => by
      show dutyTok ER (dcell d (126 + (qOf b (2 * k)).val)) (2 * k / 2) false = _
      rw [e0, Nat.mul_div_cancel_left k (by omega)]),
    bigSep_congr (s := Finset.range 9) (Φ := fun k => dutyTok ER (ocell d b (2 * k + 1)) ((2 * k + 1) / 2) false) (Ψ := fun k => (dutyTok ER (ocell d b 1) k false : sProp 𝕄)) (fun k _ => by
      show dutyTok ER (dcell d (126 + (qOf b (2 * k + 1)).val)) ((2 * k + 1) / 2) false = _
      rw [e1, show (2 * k + 1) / 2 = k by omega])] at h
  rw [← h]
  unfold outT
  exact BI.bigSep_subset (fun i hi => Finset.mem_range.mpr (by have := Finset.mem_range.mp hi; have : nI b ≤ 18 := by cases b <;> decide
                                                               omega))

theorem toks_own (d : Dev nD) : toks d ⊢ (ownToks d : sProp 𝕄) := by
  unfold toks ownToks
  rw [opt_split]
  have e := dma_split (F := F) fun n => bigSep Finset.univ fun r : Fin 9 × Bool => (dutyTok ER (dcell d n) r.1.val r.2 : sProp 𝕄)
  have hone (b : Bool) (f : ℕ → ℕ) : bigSep (Finset.range (nH b)) (fun s => bigSep Finset.univ fun r : Fin 9 × Bool => (dutyTok ER (dcell d (f s)) r.1.val r.2 : sProp 𝕄))
      ⊢ bigSep (Finset.range (nH b)) fun s => dutyTok ER (dcell d (f s)) 0 false := bigSep_mono fun s _ => tok_one _
  show iprop((bigSep Finset.univ fun r : Fin 9 × Bool => dutyTok ER (bcell d) r.1.val r.2)
    ∗ (bigSep Finset.univ fun k : Fin 128 => bigSep Finset.univ fun r : Fin 9 × Bool => dutyTok ER (dcell d (k.val + 2)) r.1.val r.2)) ⊢ _
  iintro ⟨HB, HD⟩
  ihave HD := (Entails.of_eq e) $$ HD
  icases HD with ⟨H1, H2, H3, H4, H5, H6, H7, H8⟩
  ihave HB := (tok_two (F := F) (bcell d)) $$ HB
  icases HB with ⟨HB, HB'⟩
  isplitl [HB]; · iexact HB
  isplitl [HB']; · iexact HB'
  isplitl [H1]; · unfold sendT; iapply (hone true (sN true)) $$ H1
  isplitl [H2]; · unfold recvT; iapply (hone true (rN true)) $$ H2
  isplitl [H3]; · unfold sendT; iapply (hone false (sN false)) $$ H3
  isplitl [H4]; · unfold recvT; iapply (hone false (rN false)) $$ H4
  ihave H5 := (tok_nine (F := F) (dcell d 126)) $$ H5
  ihave H6 := (tok_nine (F := F) (dcell d 127)) $$ H6
  ihave H7 := (tok_nine (F := F) (dcell d 128)) $$ H7
  ihave H8 := (tok_nine (F := F) (dcell d 129)) $$ H8
  isplitl [H5 H7]
  · iapply (tok_out (F := F) true d)
    isplitl [H5]; · iexact H5
    iexact H7
  iapply (tok_out (F := F) false d)
  isplitl [H8]; · iexact H8
  iexact H6

/-- The tokens dealt round the ring: a neighbour's barrier's and arrivals' to the device that pays them. -/
theorem toks_around : (bigSep Finset.univ fun d : Dev nD => (ownToks d : sProp 𝕄)) ⊢ bigSep Finset.univ fun d : Dev nD => payToks d := by
  unfold ownToks payToks
  simp only [bigSep_sep']
  rw [bigSep_univ_equiv (ringE false) (fun d : Dev nD => (dutyTok ER (bcell d) 0 true : sProp 𝕄)),
    bigSep_univ_equiv (ringE true) (fun d : Dev nD => (dutyTok ER (bcell d) 0 false : sProp 𝕄)),
    bigSep_univ_equiv (ringE true) (fun d : Dev nD => (recvT true d : sProp 𝕄)),
    bigSep_univ_equiv (ringE false) (fun d : Dev nD => (recvT false d : sProp 𝕄))]
  iintro H
  iexact H

/-- What every device knows but the levels. -/
def ctx0 : sProp 𝕄 :=
  iprop((bigSep Finset.univ fun x : Dev nD × Option (Fin 128) => iprop(∃ κ : ℕ, cellInv ER (Rd A B) κ (kcell x)))
    ∗ (bigSep Finset.univ fun x : Dev nD × Option (Fin 128) => (reached ER (kcell x) 0 : sProp 𝕄)))
instance ctx0_persistent : BI.Persistent (ctx0 A B) := by unfold ctx0; infer_instance

/-- A device's positions. -/
def ats (d : Dev nD) : sProp 𝕄 := bigSep Finset.univ fun k : Option (Fin 128) => atPos ER (kcell (d, k)) 0 ∅ 0

/-- What a device gets of the protocol. -/
def G' (d : Dev nD) : sProp 𝕄 := iprop(ctx0 A B ∗ ats d ∗ payToks d)

theorem core_alloc (d : Dev nD) :
    iprop(Pipeline.ownSems0 (Ix := Unit) (Name := ℕ) (U := UU) (Lvl := ℕ) (Val := Elt F) (τ := τ) osem d ∗ unscopedSems0 d ∗ G A B d)
      ⊢ |={Set.univ}=> iprop((bigSep Finset.univ fun k : Option (Fin 128) => iprop(∃ κ : ℕ, cellInv ER (Rd A B) κ (kcell (d, k))))
          ∗ (bigSep Finset.univ fun k : Option (Fin 128) => (reached ER (kcell (d, k)) 0 : sProp 𝕄)) ∗ ats d ∗ ownToks d) := by
  unfold G ats
  iintro ⟨Hos, Hus, Hst, ⟨Hat, Hr⟩, Htok⟩
  ihave Hv := (sems0_eq (F := F) d) $$ [Hos Hus]
  · isplitl [Hos] <;> iassumption
  ihave Htok := (toks_own (F := F) d) $$ Htok
  imod (show iprop((bigSep Finset.univ fun k : Option (Fin 128) => semVal (kcell (d, k)) 0) ∗ bigSep Finset.univ fun k : Option (Fin 128) => roundState ER (Rd A B) (kcell (d, k)) 0)
      ⊢ (|={Set.univ}=> bigSep Finset.univ fun k => iprop(∃ κ : ℕ, cellInv ER (Rd A B) κ (kcell (d, k))) : sProp 𝕄) from by
        rw [← bigSep_sep']
        exact (bigSep_mono fun k _ => (Rounds.body_intro ER (Rd A B) (kcell (d, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem regroup :
    (bigSep Finset.univ fun d : Dev nD => iprop((bigSep Finset.univ fun k : Option (Fin 128) => iprop(∃ κ : ℕ, cellInv ER (Rd A B) κ (kcell (d, k))))
          ∗ (bigSep Finset.univ fun k : Option (Fin 128) => (reached ER (kcell (d, k)) 0 : sProp 𝕄)) ∗ ats d ∗ ownToks d) : sProp 𝕄)
      ⊢ bigSep Finset.univ (G' A B) := by
  rw [bigSep_sep', bigSep_sep', bigSep_sep', ← bigSep_univ_prod (fun x : Dev nD × Option (Fin 128) => iprop(∃ κ : ℕ, cellInv ER (Rd A B) κ (kcell x))),
    ← bigSep_univ_prod (fun x : Dev nD × Option (Fin 128) => (reached ER (kcell x) 0 : sProp 𝕄))]
  iintro ⟨#HI, #HR, Hat, Htok⟩
  ihave Htok := (toks_around (F := F)) $$ Htok
  iapply (bigSep_with_persistent (R := ctx0 A B) (Φ := fun d => iprop(ats d ∗ payToks d)) (Ψ := G' A B) fun d _ => by unfold G'; exact BI.Entails.refl _)
  isplitr
  · unfold ctx0; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end

/-! ## The launch credits -/

/-- Every device owes its neighbour's cell `k` units: the neighbour holds their credit. -/
theorem cred_peer (b : Bool) (sm : SemLoc sig) (k : ℕ) (c : Dev nD) :
    (Pipeline.launchCred (fun d : Dev nD => tallyAt ((peer b d : Thread nD τ), sm) () k) c : sProp 𝕄) ⊢ cred (tallyAt ((c : Thread nD τ), sm) () k) := by
  have e : tallyOn ((c : Thread nD τ), sm) (launchCredit (Pipeline.owing fun d : Dev nD => tallyAt ((peer b d : Thread nD τ), sm) () k) 0 ((c : Thread nD τ), sm))
      = (tallyAt ((c : Thread nD τ), sm) () k : CellTallies nD τ sig Unit) := by
    conv_rhs => unfold tallyAt
    refine congrArg _ (Finsupp.ext fun u => ?_); cases u
    rw [Pipeline.launchCredit_owing, Finsupp.single_eq_same, Fintype.sum_eq_single (peer (!b) c) (fun d hd => ?_)]
    · rw [peer_peer, tallyAt_apply, if_pos ⟨rfl, rfl⟩]
    · rw [tallyAt_apply, if_neg]
      rintro ⟨h, -⟩
      have h1 : c = peer b d := congrArg (fun g : GSem nD τ sig => g.1.1) h
      exact hd (by rw [h1, peer_peer'])
  rw [← e]
  exact Pipeline.launchCred_elim _ c sm

/-- The credits of a device's arrivals of a direction. -/
def recvC (b : Bool) (d : Dev nD) : sProp 𝕄 := bigSep (Finset.range (nH b)) fun s => cred (tallyAt (dcell d (rN b s)) () (NH b))

theorem creds_dir (b : Bool) (c : Dev nD) : (Pipeline.launchCred (OH b 0) c : sProp 𝕄) ⊢ recvC b c := by
  rw [show OH b 0 = fun d => ∑ s ∈ Finset.Ico 0 (nH b), tallyAt (dcell (peer b d) (rN b s)) () (NH b) from rfl, Pipeline.launchCred_sum, Nat.Ico_zero_eq_range]
  unfold recvC
  exact bigSep_mono fun s _ => cred_peer b (.dma (dmaN (rN b s))) (NH b) c

theorem creds (c : Dev nD) : (Pipeline.launchCred O₀ c : sProp 𝕄) ⊢ iprop(cred (tallyAt (bcell c) () 2) ∗ recvC true c ∗ recvC false c) := by
  rw [show O₀ = fun d => (fun d => (fun d => OH true 0 d + OH false 0 d) d + tallyAt (bcell (peer true d)) () 1) d + tallyAt (bcell (peer false d)) () 1 from rfl,
    Pipeline.launchCred_add, Pipeline.launchCred_add, Pipeline.launchCred_add]
  iintro ⟨⟨⟨HT, HF⟩, H1⟩, H2⟩
  ihave H1 := (cred_peer (F := F) true (.reg barS) 1 c) $$ H1
  ihave H2 := (cred_peer (F := F) false (.reg barS) 1 c) $$ H2
  isplitl [H1 H2]
  · rw [← tallyAt_add (bcell c) () 1 1]
    iapply (cred_add _ _).2
    isplitl [H1]; · iexact H1
    iexact H2
  isplitl [HT]; · iapply (creds_dir (F := F) true c) $$ HT
  iapply (creds_dir (F := F) false c) $$ HF

end Cert.KernelIdeal.Hop

end
-- ==== Proof.Ends.lean ====
/- The body's two ends: what the launch gives a device is what the body starts with, and what the body ends with
   is the buffers whole again and every semaphore back at zero. -/
module

public import proofs.«01_k».proof.Proof.Deal

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers in their parts -/

/-- A whole gather buffer, the whole product buffers, the whole result of a device. -/
def gW (b : Bool) (d : Dev nD) (f : Buf (Elt F) ((gat b).view.loc (d : Thread nD τ))) : sProp 𝕄 := (gat b).view.loc (d : Thread nD τ) ↦{fullShare} f
def cW (d : Dev nD) (f : Buf (Elt F) ((cb : Memref sig .tc .vmem S4x768x768 .f32).view.loc (d : Thread nD τ))) : sProp 𝕄 :=
  (cb : Memref sig .tc .vmem S4x768x768 .f32).view.loc (d : Thread nD τ) ↦{fullShare} f
def oW (d : Dev nD) (f : Buf (Elt F) ((outM : Memref sig .tc .hbm S24576x768 .f32).view.loc (d : Thread nD τ))) : sProp 𝕄 :=
  (outM : Memref sig .tc .hbm S24576x768 .f32).view.loc (d : Thread nD τ) ↦{fullShare} f

/-- A gather buffer is its half blocks. -/
theorem gW_halves (b : Bool) (d : Dev nD) (f) : gW (F := F) b d f = bigSep (Finset.range (2 * nS b)) fun u => hPts b d u fullShare f := by
  have h := pointsTo_biUnion (nD := nD) (τ := τ) (sig := sig) (Ix := Unit) (Val := Elt F) (Name := ℕ) (U := UU) (Lvl := ℕ) (ℓ := (gat b).view.loc (d : Thread nD τ)) (q := fullShare) (f := f)
    (Finset.range (2 * nS b)) (hset b) (fun t _ t' _ hne => hset_disj b hne)
  rw [hset_cover] at h
  exact h

theorem hPts_any (b : Bool) (d : Dev nD) (u : ℕ) (f) : hPts (F := F) b d u fullShare f ⊢ iprop(∃ f, hPts (F := F) b d u fullShare f) := by
  iintro H; iexists f; iexact H
theorem oPts_any (d e : Dev nD) (f) : oPts (F := F) d e f ⊢ iprop(∃ f, oPts (F := F) d e f) := by
  iintro H; iexists f; iexact H
theorem nS_nH (b : Bool) : 2 * nS b = 2 + nH b := by cases b <;> rfl

/-- A gather buffer at the start: its first slot, and the landing places it lends the neighbour the blocks come from. -/
theorem gW_start (b : Bool) (d : Dev nD) (f) : gW (F := F) b d f
    ⊢ iprop((∃ f, (gat b).view.loc (d : Thread nD τ) ↦[hset b 0 ∪ hset b 1]{fullShare} f) ∗ barPay (peer (!b) d) b) := by
  have hu : ((gat b).view.loc (d : Thread nD τ) ↦[hset b 0 ∪ hset b 1]{fullShare} f : sProp 𝕄) ⊣⊢ iprop(hPts b d 0 fullShare f ∗ hPts b d 1 fullShare f) := by
    unfold hPts; exact pointsTo_union (hset_disj b (by omega))
  rw [gW_halves, nS_nH, ← Nat.Ico_zero_eq_range, ico_cut _ (show 0 ≤ 2 by omega) (show 2 ≤ 2 + nH b by omega), seg _ 2 (nH b),
    bigSep_Ico_succ_bot (show 0 < 2 by omega), bigSep_Ico_one]
  unfold barPay
  rw [peer_peer]
  iintro ⟨H2, H⟩
  isplitl [H2]
  · iexists f
    iapply hu.2 $$ H2
  · iapply (show bigSep (Finset.range (nH b)) (fun s => hPts b d (2 + s) fullShare f)
      ⊢ bigSep (Finset.range (nH b)) fun s => iprop(∃ f, hPts (F := F) b d (s + 2) fullShare f) from
      bigSep_mono fun s _ => by rw [Nat.add_comm 2 s]; exact hPts_any b d (s + 2) f) $$ H

/-- The product buffers are four. -/
theorem cW_four (d : Dev nD) (f) : cW (F := F) d f = iprop(cPts d 0 f ∗ cPts d 1 f ∗ cPts d 2 f ∗ cPts d 3 f) := by
  have h := pointsTo_biUnion (nD := nD) (τ := τ) (sig := sig) (Ix := Unit) (Val := Elt F) (Name := ℕ) (U := UU) (Lvl := ℕ)
    (ℓ := (cb : Memref sig .tc .vmem S4x768x768 .f32).view.loc (d : Thread nD τ)) (q := fullShare) (f := f)
    Finset.univ cset (fun t _ t' _ hne => cset_disj hne)
  rw [cset_cover, bigSep_univ_eq_bigSepL [(0 : Fin 4), 1, 2, 3] (by decide) (by decide)] at h
  exact h
/-- The four product buffers, at any contents, are the buffer whole. -/
theorem cW_join (d : Dev nD) (f : Fin 4 → Buf (Elt F) ((cb : Memref sig .tc .vmem S4x768x768 .f32).view.loc (d : Thread nD τ))) :
    iprop(cPts d 0 (f 0) ∗ cPts d 1 (f 1) ∗ cPts d 2 (f 2) ∗ cPts d 3 (f 3)) ⊢ iprop(∃ g, cW (F := F) d g) := by
  have h := pointsTo_biUnion_join (nD := nD) (τ := τ) (sig := sig) (Ix := Unit) (Val := Elt F) (Name := ℕ) (U := UU) (Lvl := ℕ)
    (ℓ := (cb : Memref sig .tc .vmem S4x768x768 .f32).view.loc (d : Thread nD τ)) (q := fullShare)
    Finset.univ cset f (f 0) (fun t _ t' _ hne => cset_disj hne)
  rw [cset_cover, bigSep_univ_eq_bigSepL [(0 : Fin 4), 1, 2, 3] (by decide) (by decide)] at h
  refine BIBase.Entails.trans h ?_
  unfold cW
  iintro ⟨%g, -, H⟩
  iexists g
  iexact H

/-- A family over the devices, by the product that fills a device's rows. -/
theorem by_item (d : Dev nD) (Φ : Dev nD → sProp 𝕄) : bigSep Finset.univ Φ
    = iprop(bigSep (Finset.range (nI true)) (fun i => Φ (org true (i + c0 true) d)) ∗ bigSep (Finset.range (nI false)) (fun i => Φ (org false (i + c0 false) d))) := by
  rw [bigSep_univ_equiv (itemE d) Φ, Pipeline.bigSep_univ_sigma, bigSep_univ_eq_bigSepL [true, false] (by decide) (by decide),
    ← fin_range (nI true), ← fin_range (nI false)]
  rfl
/-- The result is the rows of its products. -/
theorem oW_items (d : Dev nD) (f) : oW (F := F) d f
    = iprop(bigSep (Finset.range (nI true)) (fun i => oPts d (org true (i + c0 true) d) f) ∗ bigSep (Finset.range (nI false)) (fun i => oPts d (org false (i + c0 false) d) f)) := by
  have h := pointsTo_biUnion (nD := nD) (τ := τ) (sig := sig) (Ix := Unit) (Val := Elt F) (Name := ℕ) (U := UU) (Lvl := ℕ)
    (ℓ := (outM : Memref sig .tc .hbm S24576x768 .f32).view.loc (d : Thread nD τ)) (q := fullShare) (f := f)
    Finset.univ oset (fun t _ t' _ hne => oset_disj hne)
  rw [oset_cover] at h
  rw [← by_item d (fun e => oPts d e f)]
  exact h

section

variable (A : Dev nD → Vec F S768x384 .f32) (B : Dev nD → Vec F S384x768 .f32)

/-! ## The start -/

/-- A device's positions, by what the cell is for. -/
theorem ats_eq (d : Dev nD) : (ats d : sProp 𝕄) = iprop(atPos ER (bcell d) 0 ∅ 0
    ∗ bigSep (Finset.range (nH true)) (fun s => atPos ER (dcell d (sN true s)) 0 ∅ 0) ∗ bigSep (Finset.range (nH true)) (fun s => atPos ER (dcell d (rN true s)) 0 ∅ 0)
    ∗ bigSep (Finset.range (nH false)) (fun s => atPos ER (dcell d (sN false s)) 0 ∅ 0) ∗ bigSep (Finset.range (nH false)) (fun s => atPos ER (dcell d (rN false s)) 0 ∅ 0)
    ∗ atPos ER (dcell d 126) 0 ∅ 0 ∗ atPos ER (dcell d 127) 0 ∅ 0 ∗ atPos ER (dcell d 128) 0 ∅ 0 ∗ atPos ER (dcell d 129) 0 ∅ 0) := by
  unfold ats
  rw [opt_split, ← dma_split (F := F) fun n => atPos ER (dcell d n) 0 ∅ 0]
  rfl

/-- A direction's start, of its tokens, credits, positions and first slot. -/
theorem DirPre_intro (b : Bool) (d : Dev nD) :
    iprop(sendT b d ∗ recvT b (peer b d) ∗ bigSep (Finset.range (nH b)) (fun s => atPos ER (dcell d (sN b s)) 0 ∅ 0)
        ∗ recvC b d ∗ bigSep (Finset.range (nH b)) (fun s => atPos ER (dcell d (rN b s)) 0 ∅ 0)
        ∗ ∃ f : Buf (Elt F) ((gat b).view.loc (d : Thread nD τ)), (gat b).view.loc (d : Thread nD τ) ↦[hset b 0 ∪ hset b 1]{fullShare} f)
      ⊢ (DirPre b d : sProp 𝕄) := by
  unfold DirPre sendT recvT recvC hopTok recvTodo
  rw [Nat.Ico_zero_eq_range]
  simp only [bigSep_sep']
  iintro ⟨H1, H2, H3, H4, H5, H6⟩
  isplitl [H1 H2 H3]
  · isplitl [H1]; · iexact H1
    isplitl [H2]; · iexact H2
    iexact H3
  isplitl [H4 H5]
  · isplitl [H4]; · iexact H4
    iexact H5
  iexact H6

/-- A free product buffer at the start. -/
theorem slotFree_intro (b : Bool) (d : Dev nD) (i : ℕ) (hi : i < 2) (f) :
    iprop(ctx A B ∗ cPts d (qOf b i) f ∗ atPos ER (dcell d (126 + (qOf b i).val)) 0 ∅ 0) ⊢ (slotFree b d i : sProp 𝕄) := by
  have hc := ctx_dma A B d (126 + (qOf b i).val) (by omega) (by have := (qOf b i).isLt; omega)
  unfold slotFree
  rw [show i / 2 = 0 by omega]
  iintro ⟨#Hctx, Hp, Hat⟩
  ihave #Hc := hc $$ Hctx
  icases Hc with ⟨-, #Hr⟩
  isplitl [Hp]; · iexists f; iexact Hp
  isplitl [Hat]; · iexact Hat
  iexact Hr

/-- A direction's products at the start: none made, both buffers free. -/
theorem Cst_intro (b : Bool) (d : Dev nD) (fo fc) :
    iprop(ctx A B ∗ outT b d ∗ bigSep (Finset.range (nI b)) (fun i => oPts d (org b (i + c0 b) d) fo)
        ∗ (cPts d (qOf b 0) fc ∗ atPos ER (dcell d (126 + (qOf b 0).val)) 0 ∅ 0) ∗ (cPts d (qOf b 1) fc ∗ atPos ER (dcell d (126 + (qOf b 1).val)) 0 ∅ 0))
      ⊢ Cst A B b d 0 0 := by
  unfold Cst outT
  rw [Finset.range_zero, Finset.Ico_self, bigSep_empty, bigSep_empty, Nat.Ico_zero_eq_range, bigSep_Ico_succ_bot (show 0 < 0 + 2 by omega), bigSep_Ico_one]
  have ht : bigSep (Finset.range (nI b)) (outTodo (F := F) b d) = iprop(bigSep (Finset.range (nI b)) (fun i => dutyTok ER (ocell d b i) (i / 2) false)
      ∗ bigSep (Finset.range (nI b)) fun i => iprop(∃ f, oPts (F := F) d (org b (i + c0 b) d) f)) := by
    unfold outTodo; rw [bigSep_sep']
  rw [ht]
  iintro ⟨#Hctx, H1, H2, H3, H4⟩
  isplitl [H1 H2]
  · isplitl [H1]; · iexact H1
    iapply (show bigSep (Finset.range (nI b)) (fun i => oPts d (org b (i + c0 b) d) fo)
      ⊢ bigSep (Finset.range (nI b)) fun i => iprop(∃ f, oPts (F := F) d (org b (i + c0 b) d) f) from
      bigSep_mono fun s _ => oPts_any d (org b (s + c0 b) d) fo) $$ H2
  isplitr; · iempintro
  isplitr; · iempintro
  isplitl [H3]
  · iapply (slotFree_intro A B b d 0 (by omega) fc)
    isplitr; · iexact Hctx
    iexact H3
  · iapply (slotFree_intro A B b d (0 + 1) (by omega) fc)
    isplitr; · iexact Hctx
    iexact H4

/-- What a device holds before the body beside its staged operands. -/
def Φ₀ (d : Dev nD) : sProp 𝕄 :=
  iprop(ctx A B ∗ ats d ∗ payToks d ∗ (cred (tallyAt (bcell d) () 2) ∗ recvC true d ∗ recvC false d)
    ∗ (∃ f, oW d f) ∗ (∃ f, gW true d f) ∗ (∃ f, gW false d f) ∗ ∃ f, cW d f)

theorem start (d : Dev nD) : iprop(Φ₀ A B d ∗ aPts A d ∗ bPts B d ∗ owesX d (O₀ d)) ⊢ iprop(ctx A B ∗ bodyP A B d) := by
  unfold Φ₀ bodyP payToks
  rw [ats_eq]
  iintro ⟨⟨#Hctx, ⟨HatB, HsT, HrT, HsF, HrF, H126, H127, H128, H129⟩, ⟨HbT, HbF, HtsT, HtrT, HtsF, HtrF, HoT, HoF⟩, ⟨Hcb, HcT, HcF⟩, ⟨%fo, Ho⟩, ⟨%fT, HgT⟩, ⟨%fF, HgF⟩, ⟨%fc, Hc⟩⟩, Ha, Hb, Howe⟩
  ihave HgT := (gW_start true d fT) $$ HgT
  icases HgT with ⟨HgT, HpT⟩
  ihave HgF := (gW_start false d fF) $$ HgF
  icases HgF with ⟨HgF, HpF⟩
  ihave Ho := (Entails.of_eq (oW_items d fo)) $$ Ho
  icases Ho with ⟨HOT, HOF⟩
  ihave Hc := (Entails.of_eq (cW_four d fc)) $$ Hc
  icases Hc with ⟨Hc0, Hc1, Hc2, Hc3⟩
  isplitr; · iexact Hctx
  isplitl [Ha]; · iexact Ha
  isplitl [Hb]; · iexact Hb
  isplitl [Howe]; · iexact Howe
  isplitl [HbT HpT]
  · isplitl [HbT]; · iexact HbT
    iexact HpT
  isplitl [HbF HpF]
  · isplitl [HbF]; · iexact HbF
    iexact HpF
  isplitl [Hcb HatB]
  · isplitl [Hcb]; · iexact Hcb
    iexact HatB
  isplitl [HtsT HtrT HsT HcT HrT HgT]
  · iapply (DirPre_intro (F := F) true d)
    isplitl [HtsT]; · iexact HtsT
    isplitl [HtrT]; · iexact HtrT
    isplitl [HsT]; · iexact HsT
    isplitl [HcT]; · iexact HcT
    isplitl [HrT]; · iexact HrT
    iexact HgT
  isplitl [HtsF HtrF HsF HcF HrF HgF]
  · iapply (DirPre_intro (F := F) false d)
    isplitl [HtsF]; · iexact HtsF
    isplitl [HtrF]; · iexact HtrF
    isplitl [HsF]; · iexact HsF
    isplitl [HcF]; · iexact HcF
    isplitl [HrF]; · iexact HrF
    iexact HgF
  isplitl [HoT HOT Hc0 H126 Hc2 H128]
  · iapply (Cst_intro A B true d fo fc)
    isplitr; · iexact Hctx
    isplitl [HoT]; · iexact HoT
    isplitl [HOT]; · iexact HOT
    isplitl [Hc0 H126]
    · isplitl [Hc0]; · iexact Hc0
      iexact H126
    isplitl [Hc2]; · iexact Hc2
    iexact H128
  · iapply (Cst_intro A B false d fo fc)
    isplitr; · iexact Hctx
    isplitl [HoF]; · iexact HoF
    isplitl [HOF]; · iexact HOF
    isplitl [Hc3 H129]
    · isplitl [Hc3]; · iexact Hc3
      iexact H129
    isplitl [Hc1]; · iexact Hc1
    iexact H127

/-! ## The end -/

/-- A gather buffer whole again: the halves its hops took along are back. -/
theorem DirEnd_whole (b : Bool) (d : Dev nD) :
    DirEnd A b d ⊢ iprop(gW b d (GV A b d) ∗ bigSep (Finset.range (nH b)) (fun s => atPos ER (dcell d (sN b s)) 1 ∅ 0)
      ∗ bigSep (Finset.range (nH b)) (fun s => atPos ER (dcell d (rN b s)) 1 ∅ 0)) := by
  have hj : iprop(bigSep (Finset.range (nH b)) (leftH A b d) ∗ bigSep (Finset.range (nH b)) (rightH A b d)) ⊢ bigSep (Finset.range (nH b)) (fullH A b d) := by
    rw [← bigSep_sep']; exact bigSep_mono fun u _ => fullH_join A b d u
  have hw : gW b d (GV A b d) = iprop(bigSep (Finset.range (nH b)) (fullH A b d) ∗ bigSep (Finset.Ico (nH b) (nH b + 2)) (fullH A b d)) := by
    rw [gW_halves, nS_nH, Nat.add_comm 2, ← Nat.Ico_zero_eq_range, ico_cut _ (Nat.zero_le (nH b)) (Nat.le_add_right (nH b) 2), Nat.Ico_zero_eq_range]
    rfl
  unfold DirEnd
  have hs : bigSep (Finset.range (nH b)) (sentDone A b d) = iprop(bigSep (Finset.range (nH b)) (fun s => atPos ER (dcell d (sN b s)) 1 ∅ 0) ∗ bigSep (Finset.range (nH b)) (leftH A b d)) := by
    unfold sentDone; rw [bigSep_sep']
  rw [hs, hw]
  iintro ⟨⟨H1, HL⟩, H2, HR, HF⟩
  isplitl [HL HR HF]
  · isplitl [HL HR]
    · iapply hj
      isplitl [HL]; · iexact HL
      iexact HR
    iexact HF
  isplitl [H1]; · iexact H1
  iexact H2

/-- A cell past its last duty closes: its semaphore is the device's again, at zero. -/
theorem close_cell (g : GSem nD τ sig) (R : ℕ) (hR : ∀ r, R ≤ r → (Rd A B).duties g r = ∅) :
    iprop((∃ κ : ℕ, cellInv ER (Rd A B) κ g) ∗ atPos ER g R ∅ 0) ⊢ (|={Set.univ}=> semVal g 0 : sProp 𝕄) := by
  iintro ⟨⟨%κ, #HI⟩, Hat⟩
  imod (Rounds.cell_close ER (Rd A B) (Set.mem_univ κ) (fun h => h) (R := R) hR) $$ [Hat] with H
  · isplitr; · iexact HI
    iexact Hat
  imodintro
  iexact H

theorem close_dma (d : Dev nD) (n : ℕ) (h : 2 ≤ n) (h' : n < 130) (R : ℕ) (hR : ∀ r, R ≤ r → (Rd A B).duties (dcell d n) r = ∅) :
    iprop(ctx A B ∗ atPos ER (dcell d n) R ∅ 0) ⊢ (|={Set.univ}=> semVal (dcell d n) 0 : sProp 𝕄) := by
  have hc := ctx_dma A B d n h h'
  have hcl := close_cell A B (dcell d n) R hR
  iintro ⟨#Hctx, Hat⟩
  ihave Hc := hc $$ Hctx
  icases Hc with ⟨HI, -⟩
  iapply hcl
  isplitl [HI]; · iexact HI
  iexact Hat

theorem close_sends (b : Bool) (d : Dev nD) :
    iprop(ctx A B ∗ bigSep (Finset.range (nH b)) (fun s => atPos ER (dcell d (sN b s)) 1 ∅ 0))
      ⊢ (|={Set.univ}=> bigSep (Finset.range (nH b)) (fun s => semVal (dcell d (sN b s)) 0) : sProp 𝕄) := by
  refine BIBase.Entails.trans ?_ (bigSep_fupd _ _)
  exact bigSep_with_persistent (R := ctx A B) fun s hs =>
    close_dma A B d (sN b s) (sN_ge b s) (sN_lt (Finset.mem_range.mp hs)) 1 fun r hr => duties_send' A B d (Finset.mem_range.mp hs) r hr
theorem close_recvs (b : Bool) (d : Dev nD) :
    iprop(ctx A B ∗ bigSep (Finset.range (nH b)) (fun s => atPos ER (dcell d (rN b s)) 1 ∅ 0))
      ⊢ (|={Set.univ}=> bigSep (Finset.range (nH b)) (fun s => semVal (dcell d (rN b s)) 0) : sProp 𝕄) := by
  refine BIBase.Entails.trans ?_ (bigSep_fupd _ _)
  exact bigSep_with_persistent (R := ctx A B) fun s hs =>
    close_dma A B d (rN b s) (rN_ge b s) (rN_lt (Finset.mem_range.mp hs)) 1 fun r hr => duties_recv' A B d (Finset.mem_range.mp hs) r hr

/-- A product buffer at the end, and its semaphore at zero. -/
theorem close_slot (b : Bool) (d : Dev nD) (i : ℕ) (hi : nI b ≤ i) (hi' : i < nI b + 2) :
    iprop(ctx A B ∗ slotFree b d i) ⊢ (|={Set.univ}=> ((∃ f, cPts (F := F) d (qOf b i) f) ∗ semVal (dcell d (126 + (qOf b i).val)) 0) : sProp 𝕄) := by
  have hcl := close_dma A B d (126 + (qOf b i).val) (by omega) (by have := (qOf b i).isLt; omega) (i / 2)
    fun r hr => duties_out' A B d (qOf b i) r (le_trans (nR_le hi hi') hr)
  unfold slotFree
  iintro ⟨#Hctx, Hp, Hat, -⟩
  imod hcl $$ [Hat] with H
  · isplitr; · iexact Hctx
    iexact Hat
  imodintro
  isplitl [Hp]; · iexact Hp
  iexact H

/-- What a device holds after the body beside its staged operands. -/
def Φ₁ (d : Dev nD) : sProp 𝕄 :=
  iprop(oW d (OV A B d) ∗ ((∃ f, gW true d f) ∗ (∃ f, gW false d f) ∗ ∃ f, cW d f)
    ∗ semVal (bcell d) 0 ∗ bigSep Finset.univ fun k : Fin 128 => semVal (dcell d (k.val + 2)) 0)

theorem finish (d : Dev nD) : iprop(ctx A B ∗ bodyQ A B d) ⊢ |={Set.univ}=> iprop(Φ₁ A B d ∗ aPts A d ∗ bPts B d ∗ owesX d 0) := by
  have hbar := close_cell A B (bcell d) 1 fun r hr => duties_bar' A B d r hr
  have hbc := ctx_bar A B d
  unfold Φ₁ bodyQ CEnd
  rw [dma_split (F := F) fun n => semVal (dcell d n) 0, oW_items]
  iintro ⟨#Hctx, Ha, Hb, Ho, HatB, HT, HF, ⟨HOT, HT0, HT1⟩, ⟨HOF, HF0, HF1⟩⟩
  ihave HT := (DirEnd_whole A true d) $$ HT
  icases HT with ⟨HgT, HsT, HrT⟩
  ihave HF := (DirEnd_whole A false d) $$ HF
  icases HF with ⟨HgF, HsF, HrF⟩
  imod (close_sends A B true d) $$ [HsT] with HsT
  · isplitr; · iexact Hctx
    iexact HsT
  imod (close_recvs A B true d) $$ [HrT] with HrT
  · isplitr; · iexact Hctx
    iexact HrT
  imod (close_sends A B false d) $$ [HsF] with HsF
  · isplitr; · iexact Hctx
    iexact HsF
  imod (close_recvs A B false d) $$ [HrF] with HrF
  · isplitr; · iexact Hctx
    iexact HrF
  imod (close_slot A B true d (nI true) (by decide) (by decide)) $$ [HT0] with ⟨⟨%f2, HT0⟩, H128⟩
  · isplitr; · iexact Hctx
    iexact HT0
  imod (close_slot A B true d (nI true + 1) (by decide) (by decide)) $$ [HT1] with ⟨⟨%f0, HT1⟩, H126⟩
  · isplitr; · iexact Hctx
    iexact HT1
  imod (close_slot A B false d (nI false) (by decide) (by decide)) $$ [HF0] with ⟨⟨%f1, HF0⟩, H127⟩
  · isplitr; · iexact Hctx
    iexact HF0
  imod (close_slot A B false d (nI false + 1) (by decide) (by decide)) $$ [HF1] with ⟨⟨%f3, HF1⟩, H129⟩
  · isplitr; · iexact Hctx
    iexact HF1
  ihave HbI := hbc $$ Hctx
  icases HbI with ⟨HbI, -⟩
  imod hbar $$ [HbI HatB] with HB
  · isplitl [HbI]; · iexact HbI
    iexact HatB
  ihave Hc := (cW_join d (fun q => match q with | 0 => f0 | 1 => f1 | 2 => f2 | 3 => f3)) $$ [HT0 HT1 HF0 HF1]
  · isplitl [HT1]; · iexact HT1
    isplitl [HF0]; · iexact HF0
    isplitl [HT0]; · iexact HT0
    iexact HF1
  imodintro
  isplitr [Ha Hb Ho]
  · isplitl [HOT HOF]
    · isplitl [HOT]; · iexact HOT
      iexact HOF
    isplitl [HgT HgF Hc]
    · isplitl [HgT]; · iexists _; iexact HgT
      isplitl [HgF]; · iexists _; iexact HgF
      iexact Hc
    isplitl [HB]; · iexact HB
    isplitl [HsT]; · iexact HsT
    isplitl [HrT]; · iexact HrT
    isplitl [HsF]; · iexact HsF
    isplitl [HrF]; · iexact HrF
    isplitl [H126]; · iexact H126
    isplitl [H127]; · iexact H127
    isplitl [H128]; · iexact H128
    iexact H129
  · isplitl [Ha]; · iexact Ha
    isplitl [Hb]; · iexact Hb
    iexact Ho

/-- The body, from what the launch gives to buffers whole and semaphores at zero. -/
theorem wp_whole (d : Dev nD) (Q : PUnit → sProp 𝕄) :
    iprop(Φ₀ A B d ∗ aPts A d ∗ bPts B d ∗ owesX d (O₀ d))
      ⊢ iprop(((Φ₁ A B d ∗ aPts A d ∗ bPts B d ∗ owesX d 0) -∗ Q ⟨⟩) -∗ WP d (bodyAt d aM bM) Q) := by
  iintro H Hk
  ihave H := (start A B d) $$ H
  icases H with ⟨#Hctx, H⟩
  iapply (wp_body A B d Q) $$ [H]
  · isplitr; · iexact Hctx
    iexact H
  iintro H
  imod (finish A B d) $$ [H] with H
  · isplitr; · iexact Hctx
    iexact H
  imodintro
  iapply Hk
  iexact H

end

end Cert.KernelIdeal.Hop

end
-- ==== Proof.Exec.lean ====
/- The run of the whole program over any float values: every device ends with every device's rows of the result,
   its arguments as they were and every semaphore at zero. -/
module

public import proofs.«01_k».proof.Proof.Ends
public import Idealize.ShloMosaic.Lib.Pipeline.Launch
public import Idealize.ShloMosaic.Lib.Pipeline.CollectiveSegs
public import Idealize.ShloMosaic.Lib.Quiescent

@[expose] public section

noncomputable section

namespace Cert.KernelIdeal.Hop

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's rows of the left operand, and its copy of the right one. -/
def Am (c : Dev nD) : Vec F S768x384 .f32 := m ((c : Thread nD τ).loc main_arg0)
def Bm (c : Dev nD) : Vec F S384x768 .f32 := m ((c : Thread nD τ).loc main_arg1)

/-- The staged blocks are the whole arrays. -/
theorem blk_arg0 (c : Dev nD) (t : Fin cfg0.N) : ((cfg0.win 0).blk t).view.read (Elt F) (m ((c : Thread nD τ).loc main_arg0)) = Am m c := by
  rw [fin_N0 t]
  exact Memref.readAt_unit_zero (Elt F) main_arg0 (by funext a; fin_cases a <;> rfl) _ _
theorem blk_arg1 (c : Dev nD) (t : Fin cfg0.N) : ((cfg0.win 1).blk t).view.read (Elt F) (m ((c : Thread nD τ).loc main_arg1)) = Bm m c := by
  rw [fin_N0 t]
  exact Memref.readAt_unit_zero (Elt F) main_arg1 (by funext a; fin_cases a <;> rfl) _ _

/-- What the staging pipeline is told: the arrays as launched, the staged operands left in place, what a device
    holds beside them before and after the body, what it owes. -/
def dats (_ : Fin 1) (c : Dev nD) : Dat τ (Elt F) Unit ℕ UU ℕ cfg0 c where
  A w := m ((cfg0.win w).arr.view.loc (c : Thread nD τ))
  after w _ := match w with
    | ⟨0, _⟩ => Am m c
    | ⟨1, _⟩ => Bm m c
  Φ t := match t with
    | ⟨0, _⟩ => Φ₀ (Am m) (Bm m) c
    | ⟨_ + 1, _⟩ => Φ₁ (Am m) (Bm m) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ (Am m) (Bm m) c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
def bodyPost (c : Dev nD) : sProp 𝕄 :=
  iprop(Φ₁ (Am m) (Bm m) c ∗ (dats m 0 c).owesAt () t0_0.succ ∗ stg c cc0_stg0_0 (Am m c) ∗ stg c cc0_stg1_0 (Bm m c))

theorem before_0 (c : Dev nD) (d) : (dats m 0 c).before (0 : Fin 2) t0_0 d = Am m c := by
  unfold Dat.before; rw [if_pos (fetch0_0 t0_0)]; exact blk_arg0 m c t0_0
theorem before_1 (c : Dev nD) (d) : (dats m 0 c).before (1 : Fin 2) t0_0 d = Bm m c := by
  unfold Dat.before; rw [if_pos (fetch0_1 t0_0)]; exact blk_arg1 m c t0_0

theorem sound_body (c : Dev nD) : bodyPre m c ⊢ WP c (bodyAt c aM bM) (fun _ => bodyPost m c) := by
  unfold bodyPre bodyPost
  iintro ⟨HΦ, Ho, ⟨%d0, %g0, %hg0, Ha⟩, ⟨%d1, %g1, %hg1, Hb⟩⟩
  obtain rfl : g0 = Am m c := hg0.trans (before_0 m c d0)
  obtain rfl : g1 = Bm m c := hg1.trans (before_1 m c d1)
  unfold Dat.owesAt Pipeline.owesWithin
  icases Ho with ⟨%W, %hW, Ho⟩
  iapply (wp_whole (Am m) (Bm m) c) $$ [HΦ Ho Ha Hb]
  · isplitl [HΦ]; · iexact HΦ
    unfold aPts bPts owesX
    isplitl [Ha]; · iexact Ha
    isplitl [Hb]; · iexact Hb
    iexists W
    iexact Ho
  unfold aPts bPts owesX
  iintro ⟨HΦ, Ha, Hb, ⟨%W', Ho⟩⟩
  isplitl [HΦ]; · iexact HΦ
  isplitl [Ho]
  · iexists W'
    isplitr; · ipureintro; exact fun _ _ => Or.inl trivial
    iexact Ho
  isplitl [Ha]
  · iexists _; isplitr; · (ipureintro; rfl)
    iexact Ha
  · iexists _; isplitr; · (ipureintro; rfl)
    iexact Hb

theorem bigSep_W (Φ : Fin cfg0.W → sProp 𝕄) : bigSep Finset.univ Φ = iprop(Φ (0 : Fin 2) ∗ Φ (1 : Fin 2)) := bigSep_W0 Φ

set_option maxRecDepth 40000 in
theorem body_obligation (c : Dev nD) : BodyObligation (dats m 0 c) (defs₀ (F := F)) 𝒱₀ () Set.univ := fun t => by
  rw [fin_N0 t]
  rw [bigSep_W, bigSep_W]
  simp only [owns_whole_eq]
  show bodyPre m c ⊢ WP c (cc0_body aM (Memref.isWhole_whole _) bM (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7)
    (fun _ => bodyPost m c)
  rw [body_eq]
  unfold WP
  rw [wp_deviceId]
  exact sound_body m c

/-! ## The launch -/

set_option maxRecDepth 8000 in
theorem ownSemFacts : Pipeline.OwnSemFacts cfg0.spec osem where
  isScoped := by decide +kernel
  inj := fun k k' h => by
    have h' : dmaN (k.val + 2) = dmaN (k'.val + 2) := SemLoc.dma.inj h
    have : (k.val + 2) % 130 = (k'.val + 2) % 130 := congrArg Fin.val h'
    exact Fin.ext (by omega)
  disj := by decide +kernel

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What the launch hands a device beside its scoped buffers. -/
def X₀ (c : Dev nD) : sProp 𝕄 :=
  iprop(ctx (Am m) (Bm m) ∗ ats c ∗ payToks c ∗ (cred (tallyAt (bcell c) () 2) ∗ recvC true c ∗ recvC false c) ∗ ∃ f, oW (F := F) c f)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Am m) (Bm m) c)
      ⊢ |={Set.univ}=> iprop(X₀ m c ∗ emp) := by
  rw [Pipeline.unscopedRestP_none, unscopedRest0_eq]
  unfold X₀ G' ctx0 ctx
  iintro ⟨Hv, Hlev, Hcr, -, ⟨⟨HI, HR⟩, Hat, Htok⟩⟩
  ihave Hc := (creds (F := F) c) $$ Hcr
  imodintro
  isplitl
  · isplitl [HI HR Hlev]
    · isplitl [HI]; · iexact HI
      isplitl [HR]; · iexact HR
      iexact Hlev
    isplitl [Hat]; · iexact Hat
    isplitl [Htok]; · iexact Htok
    isplitl [Hc]; · iexact Hc
    iexists (m ((c : Thread nD τ).loc main_v1))
    unfold oW
    iexact Hv
  · iempintro

theorem phi0_intro (c : Dev nD) :
    iprop(X₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (Am m) (Bm m) c from rfl, scopedRest0_eq]
  unfold X₀ Φ₀
  iintro ⟨⟨H1, H2, H3, H4, H5⟩, -, ⟨H6, H7, H8⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem unscopedSems0_eq (c : Dev nD) : (unscopedSems0 c : sProp 𝕄) = semVal (bcell c) 0 := by
  unfold unscopedSems0; rw [bigSep_eq_bigSepL_of_eq [SemLoc.reg barS] (by decide) (by decide)]; rfl

theorem phi1_exit (c : Dev nD) :
    (dats m 0 c).Φ (Fin.last cfg0.N) ⊢ iprop((oW c (OV (Am m) (Bm m) c) ∗ unscopedSems0 c) ∗ Pipeline.ownSems0 osem c ∗ Pipeline.scopedRest cfg0.spec c) := by
  rw [show (dats m 0 c).Φ (Fin.last cfg0.N) = Φ₁ (Am m) (Bm m) c from rfl, scopedRest0_eq, unscopedSems0_eq]
  unfold Φ₁
  iintro ⟨Ho, ⟨H1, H2, H3⟩, HB, HD⟩
  isplitl [Ho HB]
  · isplitl [Ho]; · iexact Ho
    iexact HB
  isplitl [HD]; · unfold Pipeline.ownSems0; iexact HD
  isplitl [H1]; · iexact H1
  isplitl [H2]; · iexact H2
  iexact H3

/-- What is read off a device at the end: the result, and its unscoped semaphores at zero. -/
def QY (c : Dev nD) (s : MemSt nD τ sig (Elt F)) : Prop :=
  s.mem ((c : Thread nD τ).loc main_v1) = OV (Am m) (Bm m) c ∧ ∀ sm : SemLoc sig, sm.isScoped .tc = false → s.sem ((c : Thread nD τ), sm) = 0

theorem read_end (c : Dev nD) (s' : Phys nD τ sig (Elt F)) :
    iprop((oW c (OV (Am m) (Bm m) c) ∗ unscopedSems0 c) ∗ emp ∗ SI s') ⊢ (|={Set.univ}=> iprop(⌜QY m c s'.mem⌝ ∗ SI s') : sProp 𝕄) := by
  unfold oW
  iintro ⟨⟨Ho, Hu⟩, -, HSI⟩
  icombine HSI Ho gives %h
  imod (Pipeline.unscopedSems0_read (X := unscopedSems0 c) (c := c) fupd_intro s') $$ [Hu HSI] with ⟨%hu, HSI⟩
  · isplitl [Hu] <;> iassumption
  imodintro
  isplitr
  · ipureintro
    exact ⟨Buf.eq_of_forall_mem_univ h, hu⟩
  · iexact HSI

set_option maxRecDepth 8000 in
/-- Over any float values, from any memory with zero counters: the program runs on the 32 devices, ends with every
    device's result holding every device's rows of the product, both arguments as they were, and every semaphore
    counter at zero. -/
theorem run_main : θ_run defs (onTc (τ := τ) (main (F := F))) ⟨m, fun _ => 0, ρ⟩ (fun r =>
    (∀ c : Dev nD, r.2.mem ((c : Thread nD τ).loc main_v1) = OV (Am m) (Bm m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Am m) (Bm m)) (G' := G' (Am m) (Bm m)) (u₀ := u₀)
    (hu₀ := by
      unfold u₀
      iintro Hu
      ihave H := (ownU_pair _ _) $$ Hu
      icases H with ⟨HP, HX⟩
      imod (fund_hop (Am m) (Bm m)) $$ HX with HG
      imodintro
      isplitl [HP] <;> iassumption)
    (hglob := glob (Am m) (Bm m))
    (hA := fun _ _ => rfl) (hpf := fun _ k => k.elim0)
    (X := X₀ m) (Y := fun c => iprop(oW c (OV (Am m) (Bm m) c) ∗ unscopedSems0 c)) (Z := fun _ => iprop(emp))
    (hX := start_intro m ρ) (hin := phi0_intro m) (hout := phi1_exit m)
    (QY := QY m)
    (hY := read_end m)
    (hQ := fun _ h hs => ⟨fun c => ⟨(h c).2.2.1, ((h c).1 0).trans ((dats m 0 c).arrAt_in (0 : Fin 2) rfl _), ((h c).1 1).trans ((dats m 0 c).arrAt_in (1 : Fin 2) rfl _)⟩,
      sem_eq_zero hs fun c => (h c).2.2.2⟩)

end Cert.KernelIdeal.Hop

end
-- ==== Proof.Value.lean ====
/- The value: at the ideal values the gathered product of the row blocks is the reference's product
   of the whole matrices. -/
module

public import proofs.«01_k».proof.Proof.Views
public import proofs.«01_k».proof.Proof.Gen.ReferenceIdeal
public import Idealize.ShloMosaic.Lib.Layout
public import Idealize.ShloMosaic.Lib.MatmulPlain
public import Idealize.ShloMosaic.Lib.StackMember

@[expose] public section

noncomputable section

namespace Cert.KernelIdeal.Hop

open Idealize.ShloMosaic Idealize.ShloMosaic.TcCoe Idealize.SL.Sem
open Cert.KernelIdeal.Gen
open scoped BigOperators

/-- Storing a block into its slot and reading it back gives the block, whatever the float values. -/
theorem A3_back {F : FTy → Type} [FloatOps F] (A : Dev nD → Vec F S768x384 .f32) (e : Dev nD) :
    shapeCast S768x384 (A3 A e) shapeCasts_S1x768x384_S768x384 = A e := by
  unfold A3
  rw [shapeCast_shapeCast, shapeCast_self]

/-- One entry of the product a device makes of the block of device `e`: the sum, over the 384 columns
    of the block, of the products of the entries. -/
theorem C2_apply (A : Dev nD → Vec Ideal S768x384 .f32) (B : Dev nD → Vec Ideal S384x768 .f32) (e d : Dev nD)
    (r : Fin 768) (c : Fin 768) :
    C2 A B e d (ix2 r c) = ∑ k : Fin 384, A e (ValueIdx.ix2 r k) * B d (ValueIdx.ix2 k c) := by
  unfold C2
  rw [A3_back, shapeCast_self]
  have hi : ix2 r c = (ValueIdx.ix2 r c : (⟨2, ![768, 768]⟩ : Shape).Idx) := by
    funext a
    match a with
    | ⟨0, _⟩ => rfl
    | ⟨1, _⟩ => rfl
  rw [hi]
  refine (Ideal.matmul_plain_apply (M := 768) (K := 384) (N := 768) none (A e) (B d)
    (constant S768x768 .f32 0x00000000#32) r c).trans ?_
  show Ideal.ofBits .f32 0x00000000#32 + _ = _
  rw [Ideal.ofBits_zero_f32, zero_add]

/-- Where every device holds its block of rows of `X`, and all of `Y`, the rows a device gathers are the
    reference's product of `X` and `Y`: entry by entry the two are the same sum of products. -/
theorem OV_eq_dot (A : Dev nD → Vec Ideal S768x384 .f32) (B : Dev nD → Vec Ideal S384x768 .f32)
    (X : Vec Ideal Cert.ReferenceIdeal.S24576x384 .f32) (Y : Vec Ideal Cert.ReferenceIdeal.S384x768 .f32)
    (hA : ∀ c : Dev nD, A c = Layout.block ⟨2, ![768, 384]⟩ ⟨2, ![24576, 384]⟩ 0 32 c X)
    (hB : ∀ c : Dev nD, B c = Y) (d : Dev nD) :
    @Eq (FVec Ideal Cert.ReferenceIdeal.S24576x768 .f32) (OV A B d)
      (Host.dotGeneral (φ₁ := .f32) (φ₂ := .f32) Cert.ReferenceIdeal.dot_S24576x384_S384x768_S24576x768_1_0_0_1_n_n none X Y) := by
  funext i
  have hi : i = (ValueIdx.ix2 (i 0) (i 1) : (⟨2, ![24576, 768]⟩ : Shape).Idx) := by
    funext a
    match a with
    | ⟨0, _⟩ => rfl
    | ⟨1, _⟩ => rfl
  refine Eq.trans ?_ ((congrArg _ hi).trans
    (StackMember.dotGeneral_plain_apply (m := 24576) (k := 384) (n := 768) none X Y (i 0) (i 1))).symm
  refine (C2_apply A B (rowDev i) d ⟨(i 0).val % 768, Nat.mod_lt _ (by decide)⟩ (i 1)).trans ?_
  refine Finset.sum_congr rfl fun k _ => ?_
  rw [hA, hB]
  refine congrArg (fun x => X x * Y (ValueIdx.ix2 k (i 1))) ?_
  funext a
  apply Fin.ext
  match a with
  | ⟨0, _⟩ =>
    show (i 0).val / 768 * 768 + (i 0).val % 768 = (i 0).val
    omega
  | ⟨1, _⟩ => rfl

end Cert.KernelIdeal.Hop
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Exec
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel's body table is the idealized kernel's: the two texts are the same. -/
theorem defs₀_eq {F : FTy → Type} [FloatOps F] : Cert.Kernel.defs₀ (F := F) = Cert.KernelIdeal.defs₀ (F := F) := by
  refine congrArg Defs.onTc ?_
  funext l x
  match l with
  | ⟨0, _⟩ => rfl

/-- So is its table with the pipeline's labels. -/
theorem defs_eq {F : FTy → Type} [FloatOps F] : Cert.Kernel.defs (F := F) = Cert.KernelIdeal.defs (F := F) :=
  congrArg (Pipeline.defs Cert.KernelIdeal.pcfgs) defs₀_eq

/-- Over any float values the kernel runs, keeps its arguments and leaves every semaphore at zero: its run with
    the result's value dropped, at any body table equal to the idealized kernel's. -/
theorem run_args {F : FTy → Type} [FloatOps F]
    (m : (ℓ : Loc Cert.KernelIdeal.nD Cert.KernelIdeal.τ Cert.KernelIdeal.sig) → Buf (Elt F) ℓ)
    (ρ : Dev Cert.KernelIdeal.nD → PrngReg)
    {D : Defs Cert.KernelIdeal.nD Cert.KernelIdeal.τ Cert.KernelIdeal.sig (Elt F)
      (Pipeline.Sig Cert.KernelIdeal.Λ₀ (Fin 1) fun p => (Cert.KernelIdeal.pcfgs (F := F) p).Adm)}
    (hD : D = Cert.KernelIdeal.defs (F := F)) :
    θ_run D (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
  subst hD
  exact (θ_run Cert.KernelIdeal.defs _ _).mono (fun _ h => ⟨fun c => (h.1 c).2, h.2⟩)
    (Cert.KernelIdeal.Hop.run_main (F := F) m ρ)

/-- The idealized kernel runs, keeps its arguments and leaves every semaphore at zero. -/
theorem frame_kernelIdeal : Cert.quiescent_KernelIdeal := fun m ρ _ => run_args (F := Ideal) m ρ rfl

/-- So does the kernel at bit-exact floats: its text is the same, and the run is proved of any float values. -/
theorem frame_kernel : Cert.quiescent_Kernel := fun m ρ _ => run_args (F := Bits) m ρ defs_eq

/-- The reference runs and keeps its arguments; it has no semaphores. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference's product of two whole matrices, at the ideal values. -/
def product (X : FVec Ideal Cert.ReferenceIdeal.S24576x384 .f32) (Y : FVec Ideal Cert.ReferenceIdeal.S384x768 .f32) :
    FVec Ideal Cert.ReferenceIdeal.S24576x768 .f32 :=
  Host.dotGeneral (φ₁ := .f32) (φ₂ := .f32) Cert.ReferenceIdeal.dot_S24576x384_S384x768_S24576x768_1_0_0_1_n_n none X Y

/-- At the ideal values every device of the kernel ends with the reference's whole product. -/
theorem algebraic : Cert.algebraic_KernelIdeal_ReferenceIdeal := by
  intro m ρ m' ρ' _ hm
  refine ⟨product
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.KernelIdeal.Hop.run_main (F := Ideal) m ρ)
    exact Cert.KernelIdeal.Hop.OV_eq_dot (Cert.KernelIdeal.Hop.Am m) (Cert.KernelIdeal.Hop.Bm m) _ _
      (fun e => (hm e).1) (fun e => (hm e).2) c
  · exact (θ_run Cert.ReferenceIdeal.defs _ _).mono (fun _ h => h 0)
      (Cert.ReferenceIdeal.Value.run (F := Ideal) m' ρ')

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof
